-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S2048x512 : Shape := ⟨2, ![2048, 512]⟩
abbrev S13 : Shape := ⟨1, ![13]⟩
abbrev S_ : Shape := ⟨0, ![]⟩
abbrev S1 : Shape := ⟨1, ![1]⟩
abbrev S64x512 : Shape := ⟨2, ![64, 512]⟩
abbrev S256x512 : Shape := ⟨2, ![256, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .bf16⟩
  | .hbm, ⟨1, _⟩ => ⟨S2048x512, .bf16⟩
  | .local _ .vmem, ⟨0, _⟩ => ⟨S1024x512, .bf16⟩
  | .local _ .vmem, ⟨1, _⟩ => ⟨S2048x512, .bf16⟩
  | _, _ => ⟨S1024x512, .bf16⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  (ofTc nBuf bufTy 1 28 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_10 : BitVec 32 := 4#32
  let v19 : BitVec 32 := Scalar.muli v15 c4_i32_10
  let v20 : BitVec 32 := Scalar.addi c0_i32 v19
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_11 : BitVec 32 := 2#32
  let v21 : BitVec 32 := Scalar.muli v5 c2_i32_11
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v23 : BitVec 32 := Scalar.muli v8 c1_i32_12
  let v24 : BitVec 32 := Scalar.addi v22 v23
  v24.toNat
def k0_dev2 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v25 : BitVec 32 := Scalar.muli v2 c4_i32_14
  let v26 : BitVec 32 := Scalar.addi c0_i32_15 v25
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_16 : BitVec 32 := 2#32
  let v27 : BitVec 32 := Scalar.muli v16 c2_i32_16
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v29 : BitVec 32 := Scalar.muli v8 c1_i32_17
  let v30 : BitVec 32 := Scalar.addi v28 v29
  v30.toNat
def k0_dev3 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v31 : BitVec 32 := Scalar.muli v2 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_22 : BitVec 32 := 1#32
  let v35 : BitVec 32 := Scalar.muli v17 c1_i32_22
  let v36 : BitVec 32 := Scalar.addi v34 v35
  v36.toNat
def k0_off1 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v12 : BitVec 32 := Scalar.muli v2 c1024_i32
  let v39 : Index := Scalar.indexCast v12
  let c0_24 : Index := 0#32
  ![v39.toNat, 0]
def k0_off2 (d0 : Dev nD) (c0_i32_26 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v12 : BitVec 32 := Scalar.muli v2 c1024_i32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32 : BitVec 32 := 256#32
  let v41 : BitVec 32 := Scalar.muli v10 c256_i32
  let v42 : BitVec 32 := Scalar.addi v12 v41
  let v43 : BitVec 32 := Scalar.addi v42 c0_i32_26
  let c0_i32_37 : BitVec 32 := 0#32
  ![v43.toNat, 0]
def k0_dev4 (d0 : Dev nD) : Nat :=
  let c0_i32_34 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_33 : BitVec 32 := 4#32
  let v55 : BitVec 32 := Scalar.muli v15 c4_i32_33
  let v56 : BitVec 32 := Scalar.addi c0_i32_34 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_35 : BitVec 32 := 2#32
  let v57 : BitVec 32 := Scalar.muli v5 c2_i32_35
  let v58 : BitVec 32 := Scalar.addi v56 v57
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v59 : BitVec 32 := Scalar.muli v8 c1_i32_36
  let v60 : BitVec 32 := Scalar.addi v58 v59
  v60.toNat
def k0_dev5 (d0 : Dev nD) : Nat :=
  let c0_i32_42 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_41 : BitVec 32 := 4#32
  let v67 : BitVec 32 := Scalar.muli v15 c4_i32_41
  let v68 : BitVec 32 := Scalar.addi c0_i32_42 v67
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_43 : BitVec 32 := 2#32
  let v69 : BitVec 32 := Scalar.muli v5 c2_i32_43
  let v70 : BitVec 32 := Scalar.addi v68 v69
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_44 : BitVec 32 := 1#32
  let v71 : BitVec 32 := Scalar.muli v8 c1_i32_44
  let v72 : BitVec 32 := Scalar.addi v70 v71
  v72.toNat
def k0_dev6 (d0 : Dev nD) : Nat :=
  let c0_i32_50 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_49 : BitVec 32 := 4#32
  let v79 : BitVec 32 := Scalar.muli v15 c4_i32_49
  let v80 : BitVec 32 := Scalar.addi c0_i32_50 v79
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v81 : BitVec 32 := Scalar.muli v5 c2_i32_51
  let v82 : BitVec 32 := Scalar.addi v80 v81
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v83 : BitVec 32 := Scalar.muli v8 c1_i32_52
  let v84 : BitVec 32 := Scalar.addi v82 v83
  v84.toNat
def k0_dev7 (d0 : Dev nD) : Nat :=
  let c0_i32_58 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_57 : BitVec 32 := 4#32
  let v91 : BitVec 32 := Scalar.muli v15 c4_i32_57
  let v92 : BitVec 32 := Scalar.addi c0_i32_58 v91
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v93 : BitVec 32 := Scalar.muli v5 c2_i32_59
  let v94 : BitVec 32 := Scalar.addi v92 v93
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v95 : BitVec 32 := Scalar.muli v8 c1_i32_60
  let v96 : BitVec 32 := Scalar.addi v94 v95
  v96.toNat
def k0_off3 (d0 : Dev nD) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1024_i32 : BitVec 32 := 1024#32
  let v12 : BitVec 32 := Scalar.muli v2 c1024_i32
  let c3_i32 : BitVec 32 := 3#32
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let v11 : BitVec 32 := Scalar.subi c3_i32 v10
  let c256_i32_30 : BitVec 32 := 256#32
  let v53 : BitVec 32 := Scalar.muli v11 c256_i32_30
  let v54 : BitVec 32 := Scalar.addi v12 v53
  let c0_i32_69 : BitVec 32 := 0#32
  ![v54.toNat, 0]
def k0_dev8 (d0 : Dev nD) : Nat :=
  let c0_i32_66 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_6 v2
  let c4_i32_65 : BitVec 32 := 4#32
  let v103 : BitVec 32 := Scalar.muli v15 c4_i32_65
  let v104 : BitVec 32 := Scalar.addi c0_i32_66 v103
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_67 : BitVec 32 := 2#32
  let v105 : BitVec 32 := Scalar.muli v5 c2_i32_67
  let v106 : BitVec 32 := Scalar.addi v104 v105
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_68 : BitVec 32 := 1#32
  let v107 : BitVec 32 := Scalar.muli v8 c1_i32_68
  let v108 : BitVec 32 := Scalar.addi v106 v107
  v108.toNat
def k0_off4 (d0 : Dev nD) (c0_i32_80 : BitVec 32) : Fin 2 → Nat :=
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_4 v2
  let c1024_i32_5 : BitVec 32 := 1024#32
  let v14 : BitVec 32 := Scalar.muli v13 c1024_i32_5
  let c2_i32_3 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : BitVec 32 := Scalar.muli c2_i32_3 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi v9 v8
  let c256_i32_79 : BitVec 32 := 256#32
  let v125 : BitVec 32 := Scalar.muli v10 c256_i32_79
  let v126 : BitVec 32 := Scalar.addi v14 v125
  let v127 : BitVec 32 := Scalar.addi v126 c0_i32_80
  let c0_i32_88 : BitVec 32 := 0#32
  ![v127.toNat, 0]
def k0_dev9 (d0 : Dev nD) : Nat :=
  let c0_i32_85 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_84 : BitVec 32 := 4#32
  let v131 : BitVec 32 := Scalar.muli v2 c4_i32_84
  let v132 : BitVec 32 := Scalar.addi c0_i32_85 v131
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_86 : BitVec 32 := 2#32
  let v133 : BitVec 32 := Scalar.muli v16 c2_i32_86
  let v134 : BitVec 32 := Scalar.addi v132 v133
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v135 : BitVec 32 := Scalar.muli v8 c1_i32_87
  let v136 : BitVec 32 := Scalar.addi v134 v135
  v136.toNat
def k0_dev10 (d0 : Dev nD) : Nat :=
  let c0_i32_92 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_91 : BitVec 32 := 4#32
  let v143 : BitVec 32 := Scalar.muli v2 c4_i32_91
  let v144 : BitVec 32 := Scalar.addi c0_i32_92 v143
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_93 : BitVec 32 := 2#32
  let v145 : BitVec 32 := Scalar.muli v5 c2_i32_93
  let v146 : BitVec 32 := Scalar.addi v144 v145
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_94 : BitVec 32 := 1#32
  let v147 : BitVec 32 := Scalar.muli v17 c1_i32_94
  let v148 : BitVec 32 := Scalar.addi v146 v147
  v148.toNat
def k0_dev11 (d0 : Dev nD) : Nat :=
  let c0_i32_111 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_110 : BitVec 32 := 4#32
  let v171 : BitVec 32 := Scalar.muli v2 c4_i32_110
  let v172 : BitVec 32 := Scalar.addi c0_i32_111 v171
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_112 : BitVec 32 := 2#32
  let v173 : BitVec 32 := Scalar.muli v16 c2_i32_112
  let v174 : BitVec 32 := Scalar.addi v172 v173
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_113 : BitVec 32 := 1#32
  let v175 : BitVec 32 := Scalar.muli v8 c1_i32_113
  let v176 : BitVec 32 := Scalar.addi v174 v175
  v176.toNat
def k0_dev12 (d0 : Dev nD) : Nat :=
  let c0_i32_118 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_117 : BitVec 32 := 4#32
  let v183 : BitVec 32 := Scalar.muli v2 c4_i32_117
  let v184 : BitVec 32 := Scalar.addi c0_i32_118 v183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_119 : BitVec 32 := 2#32
  let v185 : BitVec 32 := Scalar.muli v5 c2_i32_119
  let v186 : BitVec 32 := Scalar.addi v184 v185
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_120 : BitVec 32 := 1#32
  let v187 : BitVec 32 := Scalar.muli v17 c1_i32_120
  let v188 : BitVec 32 := Scalar.addi v186 v187
  v188.toNat
def k0_dev13 (d0 : Dev nD) : Nat :=
  let c0_i32_137 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_136 : BitVec 32 := 4#32
  let v211 : BitVec 32 := Scalar.muli v2 c4_i32_136
  let v212 : BitVec 32 := Scalar.addi c0_i32_137 v211
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_138 : BitVec 32 := 2#32
  let v213 : BitVec 32 := Scalar.muli v16 c2_i32_138
  let v214 : BitVec 32 := Scalar.addi v212 v213
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_139 : BitVec 32 := 1#32
  let v215 : BitVec 32 := Scalar.muli v8 c1_i32_139
  let v216 : BitVec 32 := Scalar.addi v214 v215
  v216.toNat
def k0_dev14 (d0 : Dev nD) : Nat :=
  let c0_i32_144 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_143 : BitVec 32 := 4#32
  let v223 : BitVec 32 := Scalar.muli v2 c4_i32_143
  let v224 : BitVec 32 := Scalar.addi c0_i32_144 v223
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_145 : BitVec 32 := 2#32
  let v225 : BitVec 32 := Scalar.muli v5 c2_i32_145
  let v226 : BitVec 32 := Scalar.addi v224 v225
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_146 : BitVec 32 := 1#32
  let v227 : BitVec 32 := Scalar.muli v17 c1_i32_146
  let v228 : BitVec 32 := Scalar.addi v226 v227
  v228.toNat
def k0_dev15 (d0 : Dev nD) : Nat :=
  let c0_i32_163 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_162 : BitVec 32 := 4#32
  let v251 : BitVec 32 := Scalar.muli v2 c4_i32_162
  let v252 : BitVec 32 := Scalar.addi c0_i32_163 v251
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.subi c1_i32_7 v5
  let c2_i32_164 : BitVec 32 := 2#32
  let v253 : BitVec 32 := Scalar.muli v16 c2_i32_164
  let v254 : BitVec 32 := Scalar.addi v252 v253
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_165 : BitVec 32 := 1#32
  let v255 : BitVec 32 := Scalar.muli v8 c1_i32_165
  let v256 : BitVec 32 := Scalar.addi v254 v255
  v256.toNat
def k0_dev16 (d0 : Dev nD) : Nat :=
  let c0_i32_170 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_169 : BitVec 32 := 4#32
  let v263 : BitVec 32 := Scalar.muli v2 c4_i32_169
  let v264 : BitVec 32 := Scalar.addi c0_i32_170 v263
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_171 : BitVec 32 := 2#32
  let v265 : BitVec 32 := Scalar.muli v5 c2_i32_171
  let v266 : BitVec 32 := Scalar.addi v264 v265
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_8 v8
  let c1_i32_172 : BitVec 32 := 1#32
  let v267 : BitVec 32 := Scalar.muli v17 c1_i32_172
  let v268 : BitVec 32 := Scalar.addi v266 v267
  v268.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x512 : Shape := ⟨2, ![2048, 512]⟩

abbrev nBuf : Space → Nat
  | .hbm => 1
  | .vmem => 0
  | .smem => 0
  | _ => 0

abbrev bufTy : (tb : Table) → Fin (tcTables nBuf tb) → BufTy
  | .hbm, ⟨0, _⟩ => ⟨S2048x512, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Mesh.lean ====
/-
The eight devices of the mesh, the pieces of the result buffer that the copies move, and what each of
them holds when it has landed.

Device `c = 4x + 2y + z` has three neighbours, one along each axis. Copy `i` of the thirteen goes along
axis `dir i`: copies 0 to 4 along x, and of the other eight the odd ones along y, the even ones along z.
The piece that copy `i` brings to device `c` is `reg c i`; it lies in the half of `c`'s result that `c` does
not hold itself, and the thirteen pieces are exactly that half. The device at the other end keeps the same
rows, so `reg (peer (dir i) c) i` are the rows that `c` sends by copy `i`.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Devices -/

/-- The number of the neighbour of device `c` along axis `d` (0 for x, 1 for y, 2 for z). -/
def peerN (d : Fin 3) (c : ℕ) : ℕ :=
  if d = 0 then (2 * ((c / 2) % 2) + (c % 2) + 4) - 4 * (c / 4)
  else if d = 1 then (4 * (c / 4) + (c % 2) + 2) - 2 * ((c / 2) % 2)
  else (4 * (c / 4) + 2 * ((c / 2) % 2) + 1) - (c % 2)

theorem peerN_lt (d : Fin 3) (c : ℕ) (h : c < 8) : peerN d c < 8 := by
  unfold peerN; split_ifs <;> omega

set_option backward.proofsInPublic true in
/-- The neighbour of device `c` along axis `d`. -/
def peer (d : Fin 3) (c : Dev nD) : Dev nD := ⟨peerN d c.val, peerN_lt d c.val c.isLt⟩

theorem peer_peer (d : Fin 3) (c : Dev nD) : peer d (peer d c) = c := by revert d c; decide

/-- The neighbour along an axis, as a permutation of the devices. -/
def around (d : Fin 3) : Dev nD ≃ Dev nD := ⟨peer d, peer d, peer_peer d, peer_peer d⟩

theorem peer_x {n : ℕ} {h : n < nD} (c : Dev nD) (e : n = (2 * ((c.val / 2) % 2) + (c.val % 2) + 4) - 4 * (c.val / 4)) :
    (⟨n, h⟩ : Dev nD) = peer 0 c := Fin.ext e
theorem peer_y {n : ℕ} {h : n < nD} (c : Dev nD) (e : n = (4 * (c.val / 4) + (c.val % 2) + 2) - 2 * ((c.val / 2) % 2)) :
    (⟨n, h⟩ : Dev nD) = peer 1 c := Fin.ext e
theorem peer_z {n : ℕ} {h : n < nD} (c : Dev nD) (e : n = (4 * (c.val / 4) + 2 * ((c.val / 2) % 2) + 1) - (c.val % 2)) :
    (⟨n, h⟩ : Dev nD) = peer 2 c := Fin.ext e

/-! ## The copies and their pieces -/

/-- The axis copy `i` goes along. -/
def dir (i : Fin 13) : Fin 3 := if i.val < 5 then 0 else if i.val % 2 = 1 then 1 else 2

/-- How many rows copy `i` moves. -/
def rows (i : ℕ) : ℕ := if i = 4 then 256 else 64

/-- The first row of the piece that copy `i` brings to device `c`. -/
def row0 (c i : ℕ) : ℕ :=
  1024 * (1 - c / 4) +
    (if i < 4 then 256 * (c % 4) + 64 * i
     else if i = 4 then 256 * (3 - c % 4)
     else 256 * (peerN (if i % 2 = 1 then 1 else 2) c % 4) + 64 * ((i - 5) / 2))

abbrev RowIx : Type := S2048x512.Idx

/-- Rows `a` up to `a + n` of the result, all columns. -/
def band (a n : ℕ) : Finset RowIx := Finset.univ.filter fun p => a ≤ (p 0).val ∧ (p 0).val < a + n

theorem mem_band {a n : ℕ} {p : RowIx} : p ∈ band a n ↔ a ≤ (p 0).val ∧ (p 0).val < a + n := by
  unfold band
  rw [Finset.mem_filter]
  exact ⟨fun h => h.2, fun h => ⟨Finset.mem_univ _, h⟩⟩

/-- The piece that copy `i` brings to device `c`. -/
def reg (c : Dev nD) (i : Fin 13) : Finset RowIx := band (row0 c.val i.val) (rows i.val)

/-- The half of the result device `c` holds itself. -/
def own (c : Dev nD) : Finset RowIx := band (1024 * (c.val / 4)) 1024
/-- The other half. -/
def rem (c : Dev nD) : Finset RowIx := band (1024 * (1 - c.val / 4)) 1024

/-- A rectangle of whole rows of the result buffer is a band. -/
theorem set_rect (off size : Fin 2 → ℕ) (inb) (a n : ℕ) (h0 : off 0 = a) (h1 : off 1 = 0) (hn : size 0 = n) (hc : size 1 = 512) :
    (Rect.unit (s := S2048x512) off size inb).set = band a n := by
  ext p
  rw [mem_band]
  refine (Rect.mem_set_unit).trans ?_
  refine ⟨fun h => ?_, fun h => ?_⟩
  · have := h 0; rw [h0, hn] at this; exact this
  · intro x
    match x with
    | 0 => rw [h0, hn]; exact h
    | 1 => rw [h1, hc]; exact ⟨Nat.zero_le _, by have := (p 1).isLt; simpa using this⟩

/-- Two bands one above the other have no row in common. -/
theorem band_disjoint {a n b k : ℕ} (h : a + n ≤ b ∨ b + k ≤ a) : Disjoint (band a n) (band b k) :=
  Finset.disjoint_left.mpr fun p hp hq => by
    rw [mem_band] at hp hq; omega

theorem rows_apart : ∀ c : Fin 8, ∀ i j : Fin 13, i ≠ j →
    row0 c.val i.val + rows i.val ≤ row0 c.val j.val ∨ row0 c.val j.val + rows j.val ≤ row0 c.val i.val := by decide +kernel

theorem reg_disjoint (c : Dev nD) : ∀ i ∈ (Finset.univ : Finset (Fin 13)), ∀ j ∈ (Finset.univ : Finset (Fin 13)), i ≠ j → Disjoint (reg c i) (reg c j) :=
  fun i _ j _ h => band_disjoint (rows_apart c i j h)

theorem rows_cover : ∀ c : Fin 8, ∀ b : Fin 16, ∃ i : Fin 13,
    row0 c.val i.val ≤ 1024 * (1 - c.val / 4) + 64 * b.val ∧ 1024 * (1 - c.val / 4) + 64 * b.val + 64 ≤ row0 c.val i.val + rows i.val := by decide +kernel

theorem rows_inside : ∀ c : Fin 8, ∀ i : Fin 13,
    1024 * (1 - c.val / 4) ≤ row0 c.val i.val ∧ row0 c.val i.val + rows i.val ≤ 1024 * (1 - c.val / 4) + 1024 := by decide +kernel

/-- The thirteen pieces are the half device `c` does not hold. -/
theorem biUnion_reg (c : Dev nD) : (Finset.univ : Finset (Fin 13)).biUnion (reg c) = rem c := by
  ext p
  rw [Finset.mem_biUnion]
  unfold rem reg
  rw [mem_band]
  refine ⟨fun ⟨i, _, hi⟩ => ?_, fun h => ?_⟩
  · rw [mem_band] at hi
    have := rows_inside c i
    omega
  · obtain ⟨i, hi⟩ := rows_cover c ⟨((p 0).val - 1024 * (1 - c.val / 4)) / 64, by omega⟩
    refine ⟨i, Finset.mem_univ _, ?_⟩
    rw [mem_band]
    simp only at hi
    omega

/-- The half device `c` holds is the one its neighbour along x does not. -/
theorem rem_peer (c : Dev nD) : rem (peer 0 c) = own c := by
  unfold rem own
  rw [show 1024 * (1 - (peer 0 c).val / 4) = 1024 * (c.val / 4) from by revert c; decide]

theorem own_disjoint_rem (c : Dev nD) : Disjoint (own c) (rem c) :=
  band_disjoint (by have : c.val < 8 := c.isLt; omega)

theorem own_union_rem (c : Dev nD) : own c ∪ rem c = Finset.univ := by
  refine Finset.eq_univ_iff_forall.mpr fun p => ?_
  unfold own rem
  rw [Finset.mem_union, mem_band, mem_band]
  have h : c.val < 8 := c.isLt
  have hp : (p 0).val < 2048 := (p 0).isLt
  omega

/-- The rows that come to `c` by a copy `j` along x and are passed on by copy `i` along `dir i`. -/
theorem row0_forward : ∀ c : Fin 8, ∀ i : Fin 13, 5 ≤ i.val →
    row0 (peerN (dir i) c.val) i.val = row0 c.val ((i.val - 5) / 2) ∧ rows i.val = rows ((i.val - 5) / 2) := by decide +kernel

set_option backward.proofsInPublic true in
/-- The copy along x whose piece copy `i` passes on. -/
def before (i : Fin 13) : Fin 13 := ⟨(i.val - 5) / 2, by omega⟩

theorem reg_forward (c : Dev nD) (i : Fin 13) (h : 5 ≤ i.val) : reg (peer (dir i) c) i = reg c (before i) := by
  unfold reg before
  show band (row0 (peerN (dir i) c.val) i.val) _ = _
  rw [(row0_forward c i h).1, (row0_forward c i h).2]

/-! ## Where a row of the result comes from -/

/-- The device whose block row `r` of device `c`'s result comes from. -/
def srcN (c r : ℕ) : ℕ :=
  if r / 1024 = c / 4 then c
  else if r % 1024 / 256 = 3 - c % 4 then peerN 0 c
  else (1 - c / 4) * 4 + r % 1024 / 256

theorem srcN_lt (c r : ℕ) (h : c < 8) : srcN c r < 8 := by
  unfold srcN; split_ifs
  · exact h
  · exact peerN_lt 0 c h
  · have : r % 1024 / 256 < 4 := by omega
    omega

set_option backward.proofsInPublic true in
def src (c : Dev nD) (r : ℕ) : Dev nD := ⟨srcN c.val r, srcN_lt c.val r c.isLt⟩

theorem srcN_block : ∀ c : Fin 8, ∀ b : Fin 32, ∀ t : Fin 64, srcN c.val (64 * b.val + t.val) = srcN c.val (64 * b.val) := by
  intro c b t
  have ht := t.isLt
  unfold srcN
  rw [show (64 * b.val + t.val) / 1024 = 64 * b.val / 1024 by omega, show (64 * b.val + t.val) % 1024 / 256 = 64 * b.val % 1024 / 256 by omega]

/-- On the rows of copy `i` the two ends agree about where each row comes from. -/
theorem srcN_agree : ∀ c : Fin 8, ∀ i : Fin 13, ∀ b : Fin 32,
    row0 (peerN (dir i) c.val) i.val ≤ 64 * b.val → 64 * b.val + 64 ≤ row0 (peerN (dir i) c.val) i.val + rows i.val →
    srcN c.val (64 * b.val) = srcN (peerN (dir i) c.val) (64 * b.val) := by decide +kernel

theorem row0_dvd : ∀ c : Fin 8, ∀ i : Fin 13, row0 c.val i.val % 64 = 0 ∧ rows i.val % 64 = 0 := by decide +kernel

theorem src_agree (c : Dev nD) (i : Fin 13) (p : RowIx) (hp : p ∈ reg (peer (dir i) c) i) :
    src c (p 0).val = src (peer (dir i) c) (p 0).val := by
  unfold reg at hp
  rw [mem_band] at hp
  have hd := row0_dvd (peer (dir i) c) i
  have hr : (p 0).val < 2048 := (p 0).isLt
  have e : (p 0).val = 64 * ((p 0).val / 64) + (p 0).val % 64 := by omega
  have ha := srcN_agree c i ⟨(p 0).val / 64, by omega⟩
  have h1 := srcN_block c ⟨(p 0).val / 64, by omega⟩ ⟨(p 0).val % 64, by omega⟩
  have h2 := srcN_block (peer (dir i) c) ⟨(p 0).val / 64, by omega⟩ ⟨(p 0).val % 64, by omega⟩
  change row0 (peerN (dir i) c.val) i.val ≤ _ ∧ _ at hp
  change (row0 (peerN (dir i) c.val) i.val % 64 = 0) ∧ _ at hd
  have hA : row0 (peerN (dir i) c.val) i.val ≤ 64 * ((p 0).val / 64) := by omega
  have hB : 64 * ((p 0).val / 64) + 64 ≤ row0 (peerN (dir i) c.val) i.val + rows i.val := by
    have := hp.2; change (p 0).val < row0 (peerN (dir i) c.val) i.val + rows i.val at this; omega
  refine Fin.ext ?_
  show srcN c.val (p 0).val = srcN (peer (dir i) c).val (p 0).val
  rw [e]
  exact h1.trans ((ha hA hB).trans h2.symm)

theorem src_own (c : Dev nD) (p : RowIx) (hp : p ∈ own c) : src c (p 0).val = c := by
  unfold own at hp
  rw [mem_band] at hp
  refine Fin.ext ?_
  show srcN c.val (p 0).val = c.val
  unfold srcN
  exact if_pos (by omega)

/-- Row `r` of the result comes from a device whose block is the `r / 1024`-th. -/
theorem src_block (c : Dev nD) (r : ℕ) (hr : r < 2048) : (src c r).val / 4 = r / 1024 := by
  show srcN c.val r / 4 = r / 1024
  have hc : c.val < 8 := c.isLt
  unfold srcN peerN
  split_ifs <;> first | omega | (rw [if_pos rfl]; omega)

end Cert.Gather

end
-- ==== Proof.Sched.lean ====
/-
The protocol of the gather: what each semaphore counts, and what each unit hands over.

Every device has a barrier cell, thirteen send cells and thirteen receive cells, all used for one round.
* The barrier cell of `c` gets one unit from each neighbour. The neighbour along axis `d` hands over the rows of its own
  result that `c` will write by its copies along `d`, whatever they hold.
* Receive cell `i` of `c` gets copy `i` from the neighbour along `dir i`: the rows `reg c i`, holding what they hold at the end.
* Send cell `i` of `c` gives back the rows that copy `i` read. Copies along y and z read the same rows at the same time,
  one at the left half of the share and the other at the right half.
A device waits for its barrier before it has paid any copy, for a copy along x before it has paid the copies along y and z,
and for a copy along y or z when it owes nothing.
-/
module

public import proofs.«01_k».proof.Proof.Mesh

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the gather's (duties `Fin 3`) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Cells -/

abbrev xM : Memref sig .tc .vmem S1024x512 .bf16 := Memref.whole cc0_stg0_0
abbrev oM : Memref sig .tc .vmem S2048x512 .bf16 := Memref.whole cc0_stg1_0

/-- The runtime's barrier semaphore of collective id 0, and the kernel's two arrays of thirteen DMA semaphores. -/
abbrev barS : Sem sig := (SemArray.scalar (sig.barrier 0 rfl) : Sems sig S_).sem
set_option backward.proofsInPublic true in
def sendQ (i : Fin 13) : DmaSem sig := ⟨2 + i.val, by have := i.isLt; show 2 + i.val < 28; omega⟩
set_option backward.proofsInPublic true in
def recvQ (i : Fin 13) : DmaSem sig := ⟨15 + i.val, by have := i.isLt; show 15 + i.val < 28; omega⟩

/-- The kernel's own semaphores of a device: its send cells and its receive cells; -/
abbrev Own : Type := Fin 13 ⊕ Fin 13
/-- with the barrier, all cells of the gather on it. -/
abbrev Slot : Type := Unit ⊕ Own

abbrev osem : Own → SemLoc sig := fun | .inl i => .dma (sendQ i) | .inr i => .dma (recvQ i)
abbrev csem : Slot → SemLoc sig := fun | .inl _ => .reg barS | .inr k => osem k
abbrev kcell (ck : Dev nD × Slot) : GSem nD τ sig := ((ck.1 : Thread nD τ), csem ck.2)

abbrev barCell (c : Dev nD) : GSem nD τ sig := ((c : Thread nD τ), .reg barS)
abbrev sendCell (c : Dev nD) (i : Fin 13) : GSem nD τ sig := ((c : Thread nD τ), .dma (sendQ i))
abbrev recvCell (c : Dev nD) (i : Fin 13) : GSem nD τ sig := ((c : Thread nD τ), .dma (recvQ i))

/-- The credit of a piece of 64 rows and of one of 256. -/
abbrev N64 : ℕ := sig.dmaCredit .tc (Kind.tc.table .vmem) (oM : Memref sig .tc .vmem S2048x512 .bf16).view.buf S64x512 .bf16
abbrev N256 : ℕ := sig.dmaCredit .tc (Kind.tc.table .vmem) (oM : Memref sig .tc .vmem S2048x512 .bf16).view.buf S256x512 .bf16

/-- The credit of copy `i`. -/
def amt (i : ℕ) : ℕ := if i = 4 then N256 else N64

theorem amt_pos (i : ℕ) : 0 < amt i := by
  unfold amt; split_ifs
  · exact sig.dmaCredit_pos _ _ _ _ _ (by decide)
  · exact sig.dmaCredit_pos _ _ _ _ _ (by decide)

/-! ## Contents -/

/-- Device `c`'s block, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

set_option backward.proofsInPublic true in
/-- Row and column of a result element inside the block it comes from. -/
def inBlock (p : RowIx) : S1024x512.Idx := fun a => match a with
  | ⟨0, _⟩ => ⟨(p 0).val % 1024, Nat.mod_lt _ (by decide)⟩
  | ⟨1, _⟩ => ⟨(p 1).val, (p 1).isLt⟩

/-- What device `c`'s result holds at the end. -/
def outAt (c : Dev nD) : (cc0_stg1_0 : Ref sig .tc).ty.Contents (Elt F) :=
  fun p => xstg m ρ (src c (p 0).val) (inBlock p)

/-- Rows `S` of device `c`'s result buffer at share `q`, holding `f`. -/
def oP (c : Dev nD) (S : Finset RowIx) (q : PosShare TreeShare) (f : (cc0_stg1_0 : Ref sig .tc).ty.Contents (Elt F)) : sProp 𝕄 :=
  ((c : Thread nD τ).loc cc0_stg1_0) ↦[S]{q} f

omit [FloatOps F] in
instance oP_storable (c : Dev nD) (S q f) : BI.Storable (upEmb : UEmb _ 𝕄) (oP (F := F) c S q f) := by unfold oP; infer_instance

/-- The share copy `i` reads its source at. -/
def sh (i : ℕ) : PosShare TreeShare := if i < 5 then fullShare else if i % 2 = 1 then fullShare.left else fullShare.right

/-! ## The schedule -/

/-- The rows that copy `i` of device `c` writes, on the neighbour it goes to, whatever they hold. -/
def dstPay (c : Dev nD) (i : Fin 13) : sProp 𝕄 := iprop(∃ f, oP (peer (dir i) c) (reg (peer (dir i) c) i) fullShare f)
/-- What the neighbour along axis `d` hands device `c` at the barrier. -/
def barPay (c : Dev nD) (d : Fin 3) : sProp 𝕄 := bigSep (Finset.univ.filter fun i : Fin 13 => dir i = d) fun i => dstPay c i
def recvPay (c : Dev nD) (i : Fin 13) : sProp 𝕄 := oP c (reg c i) fullShare (outAt m ρ c)
def sendPay (c : Dev nD) (i : Fin 13) : sProp 𝕄 := oP c (reg (peer (dir i) c) i) (sh i.val) (outAt m ρ c)

set_option backward.proofsInPublic true in
/-- Which copy a DMA semaphore of the gather serves. -/
def idx (q : DmaSem sig) : Fin 13 := ⟨(q.val + 11) % 13, Nat.mod_lt _ (by decide)⟩

theorem idx_send : ∀ i : Fin 13, idx (sendQ i) = i := by decide
theorem idx_recv : ∀ i : Fin 13, idx (recvQ i) = i := by decide

/-- One round: three duties of one unit at a barrier cell, one duty of the copy's credit at a send or receive cell. -/
def rd : Rounds.Schedule (GSem nD τ sig) (Fin 3) 𝕄 where
  duties g r := if r = 0 ∧ g.1.2 = .tc then
      (match g.2 with | .reg s => if s = barS then Finset.univ else ∅ | .dma q => if 2 ≤ q.val then {0} else ∅) else ∅
  unitless _ := False
  amount g _ _ := match g.2 with | .reg _ => 1 | .dma q => amt (idx q).val
  payload g _ d := match g.2 with
    | .reg _ => barPay g.1.1 d
    | .dma q => if q.val < 15 then sendPay m ρ g.1.1 (idx q) else recvPay m ρ g.1.1 (idx q)
  amount_pos g _ _ _ := by
    rcases g with ⟨t, s | q⟩
    · exact Nat.one_pos
    · exact amt_pos _

omit [FloatOps F] in
instance dstPay_storable (c : Dev nD) (i : Fin 13) : BI.Storable (upEmb : UEmb _ 𝕄) (dstPay (F := F) c i) := by unfold dstPay; infer_instance
omit [FloatOps F] in
instance barPay_storable (c : Dev nD) (d : Fin 3) : BI.Storable (upEmb : UEmb _ 𝕄) (barPay (F := F) c d) := by unfold barPay; infer_instance

instance rd_payload_storable (g : GSem nD τ sig) (r : ℕ) (d : Fin 3) :
    BI.Storable (upEmb : UEmb _ 𝕄) ((rd (F := F) m ρ).payload g r d) := by
  rcases g with ⟨t, s | q⟩
  · show BI.Storable upEmb (barPay t.1 d); infer_instance
  · show BI.Storable upEmb (if q.val < 15 then sendPay m ρ t.1 (idx q) else recvPay m ρ t.1 (idx q))
    unfold sendPay recvPay
    split <;> infer_instance

section Sched
variable (c : Dev nD) (i : Fin 13)

omit [FloatOps F] in
theorem duties_bar : (rd (F := F) m ρ).duties (barCell c) 0 = Finset.univ := by
  dsimp only [rd]; rw [if_pos ⟨rfl, rfl⟩]; exact if_pos rfl
omit [FloatOps F] in
theorem duties_send : (rd (F := F) m ρ).duties (sendCell c i) 0 = {0} := by
  dsimp only [rd]; rw [if_pos ⟨rfl, rfl⟩]; exact if_pos (Nat.le_add_right _ _)
omit [FloatOps F] in
theorem duties_recv : (rd (F := F) m ρ).duties (recvCell c i) 0 = {0} := by
  dsimp only [rd]; rw [if_pos ⟨rfl, rfl⟩]; exact if_pos (by show 2 ≤ 15 + i.val; omega)
omit [FloatOps F] in
theorem duties_later (g : GSem nD τ sig) : ∀ r, 1 ≤ r → (rd (F := F) m ρ).duties g r = ∅ :=
  fun r hr => by dsimp only [rd]; rw [if_neg fun h => by omega]

omit [FloatOps F] in
theorem amount_bar (d : Fin 3) : (rd (F := F) m ρ).amount (barCell c) 0 d = 1 := rfl
omit [FloatOps F] in
theorem amount_send (d : Fin 3) : (rd (F := F) m ρ).amount (sendCell c i) 0 d = amt i.val := by
  show amt (idx (sendQ i)).val = _; rw [idx_send]
omit [FloatOps F] in
theorem amount_recv (d : Fin 3) : (rd (F := F) m ρ).amount (recvCell c i) 0 d = amt i.val := by
  show amt (idx (recvQ i)).val = _; rw [idx_recv]

omit [FloatOps F] in
theorem expect_bar : (rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
omit [FloatOps F] in
theorem expect_send : (rd (F := F) m ρ).expect (sendCell c i) 0 = amt i.val := by
  unfold Schedule.expect Schedule.amountOf; rw [duties_send, Finset.sum_singleton, amount_send]
omit [FloatOps F] in
theorem expect_recv : (rd (F := F) m ρ).expect (recvCell c i) 0 = amt i.val := by
  unfold Schedule.expect Schedule.amountOf; rw [duties_recv, Finset.sum_singleton, amount_recv]

omit [FloatOps F] in
theorem payload_bar (d : Fin 3) : (rd (F := F) m ρ).payload (barCell c) 0 d = barPay c d := rfl
omit [FloatOps F] in
theorem payload_send (d : Fin 3) : (rd (F := F) m ρ).payload (sendCell c i) 0 d = sendPay m ρ c i := by
  show (if (sendQ i).val < 15 then sendPay m ρ c (idx (sendQ i)) else recvPay m ρ c (idx (sendQ i))) = _
  rw [if_pos (by show 2 + i.val < 15; omega), idx_send]
omit [FloatOps F] in
theorem payload_recv (d : Fin 3) : (rd (F := F) m ρ).payload (recvCell c i) 0 d = recvPay m ρ c i := by
  show (if (recvQ i).val < 15 then sendPay m ρ c (idx (recvQ i)) else recvPay m ρ c (idx (recvQ i))) = _
  rw [if_neg (by show ¬ 15 + i.val < 15; omega), idx_recv]

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

omit [FloatOps F] in
/-- Anything indexed by the copies, dealt by axis. -/
theorem by_axis (Φ : Fin 13 → sProp 𝕄) :
    bigSep Finset.univ Φ = bigSep Finset.univ fun d : Fin 3 => bigSep (Finset.univ.filter fun i : Fin 13 => dir i = d) Φ := by
  rw [bigSep_fiberwise Finset.univ dir Φ, show Finset.univ.image dir = (Finset.univ : Finset (Fin 3)) from by decide]

omit [FloatOps F] in
/-- The barrier's round: everything the device will write on its neighbours. -/
theorem rest_bar : bigSep ((rd (F := F) m ρ).duties (barCell c) 0 \ ∅) (fun d => (rd (F := F) m ρ).payload (barCell c) 0 d)
    = bigSep Finset.univ fun i => dstPay c i := by
  rw [Finset.sdiff_empty, duties_bar, by_axis]; rfl
omit [FloatOps F] in
theorem rest_send : bigSep ((rd (F := F) m ρ).duties (sendCell c i) 0 \ ∅) (fun d => (rd (F := F) m ρ).payload (sendCell c i) 0 d) = sendPay m ρ c i := by
  rw [Finset.sdiff_empty, duties_send, bigSep_singleton, payload_send]
omit [FloatOps F] in
theorem rest_recv : bigSep ((rd (F := F) m ρ).duties (recvCell c i) 0 \ ∅) (fun d => (rd (F := F) m ρ).payload (recvCell c i) 0 d) = recvPay m ρ c i := by
  rw [Finset.sdiff_empty, duties_recv, bigSep_singleton, payload_recv]

end Sched

omit [FloatOps F] in
/-- The half a device does not hold, cut into its thirteen pieces, is what it hands its three neighbours. -/
theorem hand_over (c : Dev nD) (f : (cc0_stg1_0 : Ref sig .tc).ty.Contents (Elt F)) :
    oP c (rem c) fullShare f ⊢ (iprop(barPay (peer 0 c) 0 ∗ barPay (peer 1 c) 1 ∗ barPay (peer 2 c) 2) : sProp 𝕄) := by
  have hb (d : Fin 3) : (bigSep (Finset.univ.filter fun i : Fin 13 => dir i = d) fun i => oP c (reg c i) fullShare f) ⊢ (barPay (peer d c) d : sProp 𝕄) := by
    unfold barPay
    refine bigSep_mono fun i hi => ?_
    have hd : dir i = d := (Finset.mem_filter.mp hi).2
    unfold dstPay
    rw [hd, peer_peer]
    exact BIClass.exists_intro (Φ := fun f => oP c (reg c i) fullShare f) f
  have hs : oP c (rem c) fullShare f = (bigSep Finset.univ fun i => oP c (reg c i) fullShare f : sProp 𝕄) := by
    rw [← biUnion_reg c]; unfold oP
    exact pointsTo_biUnion _ _ (reg_disjoint c)
  rw [hs, by_axis, bigSep_fin3]
  exact BIClass.sep_mono (hb 0) (BIClass.sep_mono (hb 1) (hb 2))

/-! ## What each core owes at launch; the levels -/

/-- What device `c` owes for its copies from the `n`-th on. -/
def due (c : Dev nD) (n : ℕ) : CellTallies nD τ sig Unit :=
  ∑ i ∈ Finset.univ.filter (fun i : Fin 13 => n ≤ i.val), tallyAt (recvCell (peer (dir i) c) i) () (amt i.val)

theorem due_step (c : Dev nD) (i : Fin 13) : due c i.val = due c (i.val + 1) + tallyAt (recvCell (peer (dir i) c) i) () (amt i.val) := by
  unfold due
  have hs : (Finset.univ.filter fun j : Fin 13 => i.val ≤ j.val) = insert i (Finset.univ.filter fun j : Fin 13 => i.val + 1 ≤ j.val) := by
    revert i; decide
  have hn : i ∉ Finset.univ.filter fun j : Fin 13 => i.val + 1 ≤ j.val := by
    revert i; decide
  rw [hs, Finset.sum_insert hn, add_comm]

theorem due_end (c : Dev nD) : due c 13 = 0 := by
  unfold due
  rw [show (Finset.univ.filter fun j : Fin 13 => 13 ≤ j.val) = ∅ from by decide]
  exact Finset.sum_empty

/-- Before its first, second and third signal a device owes one unit more each. -/
def owe2 (c : Dev nD) : CellTallies nD τ sig Unit := due c 0 + tallyAt (barCell (peer 2 c)) () 1
def owe1 (c : Dev nD) : CellTallies nD τ sig Unit := owe2 c + tallyAt (barCell (peer 1 c)) () 1
def O₀ (c : Dev nD) : CellTallies nD τ sig Unit := owe1 c + tallyAt (barCell (peer 0 c)) () 1

def L (g : GSem nD τ sig) : Finset Unit := if g.1.2 = .tc then {()} else ∅
/-- Staging and send cells at 0, barrier cells at 1, the receive cells of copies along x at 2, the other receive cells at 3. -/
def lv (g : GSem nD τ sig) (_ : Unit) : ℕ := match g.2 with
  | .reg _ => 1
  | .dma q => if q.val < 15 then 0 else if q.val < 20 then 2 else 3

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (i : Fin 13) (u : Unit) : lv (recvCell c i) u = if i.val < 5 then 2 else 3 := by
  show (if 15 + i.val < 15 then 0 else if 15 + i.val < 20 then 2 else 3) = _
  rw [if_neg (by omega)]
  by_cases h : i.val < 5
  · rw [if_pos h, if_pos (by omega)]
  · rw [if_neg h, if_neg (by omega)]

theorem due_pos {c : Dev nD} {n : ℕ} {g : GSem nD τ sig} {u : Unit} (h : 0 < due c n g u) :
    ∃ i : Fin 13, n ≤ i.val ∧ g = recvCell (peer (dir i) c) i := by
  unfold due at h
  rw [Finset.sum_apply, Finsupp.finsetSum_apply] at h
  obtain ⟨i, hi, hp⟩ := Finset.exists_ne_zero_of_sum_ne_zero (Nat.pos_iff_ne_zero.mp h)
  exact ⟨i, (Finset.mem_filter.mp hi).2, (Pipeline.tallyAt_pos (Nat.pos_of_ne_zero hp)).1⟩

theorem O₀_pos {c : Dev nD} {g : GSem nD τ sig} {u : Unit} (h : 0 < O₀ c g u) :
    (∃ i : Fin 13, g = recvCell (peer (dir i) c) i) ∨ ∃ d, g = barCell (peer d c) := by
  unfold O₀ owe1 owe2 at h
  rw [Pi.add_apply, Finsupp.add_apply, Pi.add_apply, Finsupp.add_apply, Pi.add_apply, Finsupp.add_apply] at h
  by_cases h0 : 0 < due c 0 g u
  · obtain ⟨i, _, hi⟩ := due_pos h0; exact .inl ⟨i, hi⟩
  by_cases h1 : 0 < tallyAt (barCell (peer 2 c)) () 1 g u
  · exact .inr ⟨2, (Pipeline.tallyAt_pos h1).1⟩
  by_cases h2 : 0 < tallyAt (barCell (peer 1 c)) () 1 g u
  · exact .inr ⟨1, (Pipeline.tallyAt_pos h2).1⟩
  by_cases h3 : 0 < tallyAt (barCell (peer 0 c)) () 1 g u
  · exact .inr ⟨0, (Pipeline.tallyAt_pos h3).1⟩
  omega

omit [FloatOps F] in
/-- A wait at level `b` is allowed when the copies still owed, from the `n`-th on, are all above it. -/
theorem mayWait_due (c : Dev nD) (sm : SemLoc sig) (b n : ℕ) (hb : lv ((c : Thread nD τ), sm) () ≤ b)
    (hn : ∀ i : Fin 13, n ≤ i.val → b < if i.val < 5 then 2 else 3) :
    (levAts L lv : sProp 𝕄) ⊢ MayWait (c : Thread nD τ) sm () (due c n) :=
  MayOwe.of_cut (L := L) (lev := lv) b (fun p hp => by rw [Finset.mem_singleton.mp hp, L_tc]; exact Finset.mem_singleton_self _)
    (fun g u hg => by obtain ⟨i, _, rfl⟩ := due_pos hg; rw [L_tc]; exact Finset.mem_singleton_self _)
    (fun p hp => by rw [Finset.mem_singleton.mp hp]; exact hb)
    (fun g u hg => by obtain ⟨i, hi, rfl⟩ := due_pos hg; rw [lv_recv]; exact hn i hi)

omit [FloatOps F] in
theorem mayWait_stage (c : Dev nD) (q : DmaSem sig) (hq : q.val < 15) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨d, rfl⟩ <;> (rw [L_tc]; exact Finset.mem_singleton_self _))
      (fun p hp => by rw [Finset.mem_singleton.mp hp]; exact le_of_eq (if_pos hq))
      (fun g u hg => by
        rcases O₀_pos hg with ⟨i, rfl⟩ | ⟨d, rfl⟩
        · rw [lv_recv]; split_ifs <;> decide
        · exact Nat.one_pos)
  · rw [MayWait_zero]; iintro -; iempintro

end Cert.Gather

end
-- ==== Proof.Steps.lean ====
/-
One lemma per kind of step a device takes: a signal, a copy, a wait for a copy it sent, a wait for a copy it receives.
Each turns what the device holds for that copy before the step into what it holds after.
-/
module

public import proofs.«01_k».proof.Proof.Sched

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## What every device knows -/

/-- Every cell's invariant, that every cell's round 0 is open, and the levels. -/
def world (K : Dev nD × Slot → ℕ) : sProp 𝕄 :=
  iprop((bigSep Finset.univ fun ck : Dev nD × Slot => cellInv ER (rd m ρ) (K ck) (kcell ck))
    ∗ (bigSep Finset.univ fun ck : Dev nD × Slot => reached ER (kcell ck) 0)
    ∗ levAts L lv)

instance world_persistent (K : Dev nD × Slot → ℕ) : BI.Persistent (world m ρ K) := by unfold world; infer_instance

variable (K : Dev nD × Slot → ℕ)

omit [FloatOps F] in
theorem world_inv (ck : Dev nD × Slot) : world m ρ K ⊢ cellInv ER (rd m ρ) (K ck) (kcell ck) := by
  unfold world
  exact sep_elim_left.trans (bigSep_elim (Finset.mem_univ ck))
omit [FloatOps F] in
theorem world_reached (ck : Dev nD × Slot) : world m ρ K ⊢ reached ER (kcell ck) 0 := by
  unfold world
  exact sep_elim_right.trans (sep_elim_left.trans (bigSep_elim (Finset.mem_univ ck)))
omit [FloatOps F] in
theorem world_lev : world m ρ K ⊢ levAts L lv := by
  unfold world
  iintro ⟨-, -, #HL⟩
  iexact HL

/-! ## What a device holds for one copy -/

/-- What device `c` owes, whatever it has waited for. -/
def owesE (c : Dev nD) (O : CellTallies nD τ sig Unit) : sProp 𝕄 := iprop(∃ W, owes (c : Thread nD τ) O W)

/-- Copy `i` of device `c` not yet started, in flight, and back. -/
def out0 (c : Dev nD) (i : Fin 13) : sProp 𝕄 :=
  iprop(dutyTok ER (sendCell c i) 0 0 ∗ dutyTok ER (recvCell (peer (dir i) c) i) 0 0 ∗ atPos ER (sendCell c i) 0 ∅ 0)
def out1 (c : Dev nD) (i : Fin 13) : sProp 𝕄 :=
  iprop(cred (tallyAt (sendCell c i) () (amt i.val)) ∗ atPos ER (sendCell c i) 0 ∅ 0)
def out2 (c : Dev nD) (i : Fin 13) : sProp 𝕄 := atPos ER (sendCell c i) 1 ∅ 0
/-- Copy `i` to device `c` not yet waited for, and received. -/
def in0 (c : Dev nD) (i : Fin 13) : sProp 𝕄 :=
  iprop(cred (tallyAt (recvCell c i) () (amt i.val)) ∗ atPos ER (recvCell c i) 0 ∅ 0)
def in1 (c : Dev nD) (i : Fin 13) : sProp 𝕄 := atPos ER (recvCell c i) 1 ∅ 0

/-! ## Contents moved by a copy -/

section Views
variable {off size : Fin 2 → ℕ} {inb : ∀ a, off a + size a ≤ S2048x512.size a}

abbrev oV (off size : Fin 2 → ℕ) (inb : ∀ a, off a + size a ≤ S2048x512.size a) :
    Memref sig .tc .vmem (Rect.unit (s := S2048x512) off size inb).shape .bf16 :=
  (oM : Memref sig .tc .vmem S2048x512 .bf16).slice (Rect.unit (s := S2048x512) off size inb) (fun _ => rfl)

omit [FloatOps F] in
theorem oV_set : (oV off size inb).view.set = (Rect.unit (s := S2048x512) off size inb).set := View.set_slice_whole _ _

omit [FloatOps F] in
theorem oV_pts (c : Dev nD) (S : Finset RowIx) (h : (Rect.unit (s := S2048x512) off size inb).set = S) (q : PosShare TreeShare) (f : (cc0_stg1_0 : Ref sig .tc).ty.Contents (Elt F)) :
    ((oV off size inb).view.loc (c : Thread nD τ) ↦[(oV off size inb).view.set]{q} f : sProp 𝕄) = oP c S q f := by
  subst h
  rw [oV_set]; rfl

omit [FloatOps F] in
/-- Rows written from the same rows of `f` hold `f` there. -/
theorem landed (c : Dev nD) (f g : (cc0_stg1_0 : Ref sig .tc).ty.Contents (Elt F)) :
    oP c (oV off size inb).view.set fullShare ((oV off size inb).view.write (Elt F) g ((oV off size inb).view.read (Elt F) f) Finset.univ)
      = oP c (oV off size inb).view.set fullShare f := by
  unfold oP
  refine pointsTo_congr fun p hp => ?_
  obtain ⟨y, rfl⟩ := View.exists_emb_of_mem_set _ hp
  rw [View.write_emb_of_mem _ _ (Finset.mem_univ _)]
  rfl

end Views

omit [FloatOps F] in
theorem outAt_peer (c : Dev nD) (i : Fin 13) (q : PosShare TreeShare) (d : Dev nD) :
    oP d (reg (peer (dir i) c) i) q (outAt m ρ c) = oP d (reg (peer (dir i) c) i) q (outAt m ρ (peer (dir i) c)) := by
  unfold oP
  refine pointsTo_congr fun p hp => ?_
  unfold outAt
  rw [src_agree c i p hp]

/-! ## The steps -/

/-- The program `p` on device `c`, with `Q` of what it returns. -/
abbrev run (c : Dev nD) {α : Type} (Q : α → sProp 𝕄) (p : Prog (TpuEff nD τ sig (Elt F) Λ₀ .tc) α) : sProp 𝕄 :=
  wp frame (wpE (defs₀ (F := F)) 𝒱₀ (c : Thread nD τ) none) Set.univ p Q

/-- A signal to the neighbour along axis `d`, with the rows that neighbour will write here. -/
theorem signal_step (c : Dev nD) {α : Type} {Q : α → sProp 𝕄} {k : PUnit → Prog (TpuEff nD τ sig (Elt F) Λ₀ .tc) α}
    (d : Fin 3) (n : Dev nD) (hn : n = peer d c) (O : CellTallies nD τ sig Unit) {w : ℕ} (hw : w = 1) :
    world m ρ K ⊢ iprop(owesE c (O + tallyAt (barCell (peer d c)) () 1) -∗ dutyTok ER (barCell (peer d c)) 0 d -∗ barPay (peer d c) d
      -∗ (owesE c O -∗ run c Q (k ⟨⟩)) -∗ run c Q (.op (.semSignal (n : Thread nD τ) barS w) k)) := by
  subst hn hw
  unfold owesE
  iintro #HW ⟨%W, HO⟩ Ht Hp Hk
  iapply (Rounds.wp_signal 𝒱₀ ER (rd m ρ) (c : Thread nD τ) none (dst := (peer d c : Thread nD τ)) (κ := K (peer d c, .inl ()))
      (d := d) (by rw [duties_bar]; exact Finset.mem_univ _) (amount_bar m ρ (peer d c) d) () O rfl) $$ [HO Ht Hp]
  · isplitr; · iapply (world_inv m ρ K (peer d c, .inl ())); iexact HW
    isplitl [HO]; · iexact HO
    isplitl [Ht]; · iexact Ht
    isplitl [Hp]; · rw [payload_bar]; iexact Hp
    iapply (world_reached m ρ K (peer d c, .inl ())); iexact HW
  iintro HO
  iapply Hk
  iexists W; iexact HO

/-- The wait for the three neighbours' signals, owing every copy. -/
theorem barrier_step (c : Dev nD) {α : Type} {Q : α → sProp 𝕄} {k : PUnit → Prog (TpuEff nD τ sig (Elt F) Λ₀ .tc) α}
    {w : ℕ} (hw : w = 3) :
    world m ρ K ⊢ iprop(owesE c (due c 0) -∗ (cred (tallyAt (barCell c) () 3) ∗ atPos ER (barCell c) 0 ∅ 0)
      -∗ (((bigSep Finset.univ fun i => dstPay c i) ∗ atPos ER (barCell c) 1 ∅ 0 ∗ owesE c (due c 0)) -∗ run c Q (k ⟨⟩))
      -∗ run c Q (.op (.semWait barS w) k)) := by
  subst hw
  unfold owesE
  iintro #HW ⟨%W, HO⟩ ⟨Hc, Hat⟩ Hk
  iapply (Rounds.wp_wait_rest_token 𝒱₀ ER (rd m ρ) (c : Thread nD τ) none (κ := K (c, .inl ()))
      (wpE_semWait_eq 𝒱₀ (c : Thread nD τ) none Set.univ) (Set.mem_univ _) () (O := due c 0) (W := W) (R := 0) (m := 0) (T := ∅)
      (by rw [expect_bar])) $$ [Hc HO Hat]
  · isplitr; · iapply (world_inv m ρ K (c, .inl ())); iexact HW
    isplitl [Hc]; · iexact Hc
    isplitl [HO]; · iexact HO
    isplitr
    · iapply (mayWait_due c (.reg barS) 1 0 le_rfl (fun i _ => by split_ifs <;> decide))
      iapply (world_lev m ρ K); iexact HW
    iexact Hat
  iintro ⟨HO, Hat, -, Hpay⟩
  iapply Hk
  ihave Hp := (Entails.of_eq (rest_bar m ρ c)) $$ Hpay
  isplitl [Hp]; · iexact Hp
  isplitl [Hat]; · iexact Hat
  iexists _; iexact HO

/-- Copy `i` starts. -/
theorem send_step (c : Dev nD) (i : Fin 13) {α : Type} {Q : α → sProp 𝕄} {k : PUnit → Prog (TpuEff nD τ sig (Elt F) Λ₀ .tc) α}
    (n : Dev nD) (hn : n = peer (dir i) c) {off size : Fin 2 → ℕ} {inb} (hset : (Rect.unit (s := S2048x512) off size inb).set = reg (peer (dir i) c) i)
    {sS sR : DmaSem sig} (hS : sS = sendQ i) (hR : sR = recvQ i) (hN : (oV off size inb).view.dmaCredit = amt i.val)
    {j j' : ℕ} (hj : j = i.val) (hj' : j' = i.val + 1)
    {hsc : (oV off size inb).view.ref.isScScratch = false} {hsrc hdst : (oV off size inb).view.WordExact}
    {hsem : DmaTarget.Typed .vmem (.dma sR) (.remote (Dev.tc n : Thread nD τ) (oV off size inb) (.dma sS) hsc)} :
    world m ρ K ⊢ iprop(owesE c (due c j) -∗ out0 c i -∗ dstPay c i -∗ sendPay m ρ c i
      -∗ ((out1 c i ∗ owesE c (due c j')) -∗ run c Q (k ⟨⟩))
      -∗ run c Q (.op (.enqueueDma (oV off size inb) (.remote (Dev.tc n : Thread nD τ) (oV off size inb) (.dma sS) hsc) (.dma sR) hsrc hdst hsem) k)) := by
  subst hn hS hR hj hj'
  unfold owesE out0 dstPay
  iintro #HW ⟨%W, HO⟩ ⟨HtS, HtR, Hat⟩ ⟨%fd, Hd⟩ Hs Hk
  iapply (Rounds.wp_send_pointsTo 𝒱₀ ER (rd m ρ) (c : Thread nD τ) none (κ₁ := K (c, .inr (.inl i))) (κ₂ := K (peer (dir i) c, .inr (.inr i)))
    (r₁ := 0) (r₂ := 0) (d₁ := 0) (d₂ := 0) (q := sh i.val) (fs := outAt m ρ c) (fd := fd)
    (by rw [duties_send]; exact Finset.mem_singleton_self _) (by rw [duties_recv]; exact Finset.mem_singleton_self _)
    () () (amt i.val) (by exact hN) (amount_send m ρ c i 0) (amount_recv m ρ (peer (dir i) c) i 0) (due c (i.val + 1)) (due_step c i) (W := W)
    (by rw [payload_send]; exact Entails.of_eq (oV_pts c _ hset _ _))
    (by
      rw [payload_recv]; unfold recvPay
      refine Entails.of_eq ((landed (peer (dir i) c) (outAt m ρ c) fd).trans ?_)
      rw [oV_set, hset, outAt_peer])) $$ [HO HtS HtR Hd Hs]
  · isplitr; · iapply (world_inv m ρ K (c, .inr (.inl i))); iexact HW
    isplitr; · iapply (world_inv m ρ K (peer (dir i) c, .inr (.inr i))); iexact HW
    isplitl [Hs]; · iapply (Entails.of_eq (oV_pts c _ hset (sh i.val) (outAt m ρ c)).symm); unfold sendPay; iexact Hs
    isplitl [Hd]; · iapply (Entails.of_eq (oV_pts (peer (dir i) c) _ hset fullShare fd).symm); iexact Hd
    isplitl [HO]; · iexact HO
    isplitl [HtS]; · iexact HtS
    isplitr; · iapply (world_reached m ρ K (c, .inr (.inl i))); iexact HW
    isplitl [HtR]; · iexact HtR
    iapply (world_reached m ρ K (peer (dir i) c, .inr (.inr i))); iexact HW
  iintro ⟨Hc, HO⟩
  iapply Hk
  unfold out1
  isplitl [Hc Hat]
  · isplitl [Hc] <;> iassumption
  iexists W; iexact HO

/-- The wait for copy `i` to device `c`, owing the copies from the `j`-th on, all of a higher level. -/
theorem recv_step (c : Dev nD) (i : Fin 13) {α : Type} {Q : α → sProp 𝕄} {k : PUnit → Prog (TpuEff nD τ sig (Elt F) Λ₀ .tc) α}
    {sR : DmaSem sig} (hR : sR = recvQ i) {j : ℕ}
    (hlev : ∀ i' : Fin 13, j ≤ i'.val → (if i.val < 5 then 2 else 3) < if i'.val < 5 then 2 else 3)
    {s s' : Shape} {sp sp' : Space} {e e' : EltTy} {src : Memref sig .tc sp s e} {dst : Memref sig .tc sp' s' e'} (hN : dst.view.dmaCredit = amt i.val)
    {h1 : src.view.WordExact} {h2 : dst.view.WordExact} :
    world m ρ K ⊢ iprop(owesE c (due c j) -∗ in0 c i -∗ ((recvPay m ρ c i ∗ in1 c i ∗ owesE c (due c j)) -∗ run c Q (k ⟨⟩))
      -∗ run c Q (.op (.waitDma2 sR src dst h1 h2) k)) := by
  subst hR
  unfold owesE in0
  iintro #HW ⟨%W, HO⟩ ⟨Hc, Hat⟩ Hk
  iapply (Rounds.wp_wait_rest_token 𝒱₀ ER (rd m ρ) (c : Thread nD τ) none (κ := K (c, .inr (.inr i)))
      (wpE_waitDma2_eq 𝒱₀ (c : Thread nD τ) none Set.univ) (Set.mem_univ _) () (O := due c j) (W := W) (R := 0) (m := 0) (T := ∅)
      (by rw [Nat.zero_add, expect_recv, hN])) $$ [Hc HO Hat]
  · isplitr; · iapply (world_inv m ρ K (c, .inr (.inr i))); iexact HW
    isplitl [Hc]; · rw [hN]; iexact Hc
    isplitl [HO]; · iexact HO
    isplitr
    · iapply (mayWait_due c (.dma (recvQ i)) (if i.val < 5 then 2 else 3) j (le_of_eq (lv_recv c i ())) hlev)
      iapply (world_lev m ρ K); iexact HW
    iexact Hat
  iintro ⟨HO, Hat, -, Hpay⟩
  iapply Hk
  ihave Hp := (Entails.of_eq (rest_recv m ρ c i)) $$ Hpay
  isplitl [Hp]; · iexact Hp
  isplitl [Hat]; · unfold in1; iexact Hat
  iexists _; iexact HO

/-- The wait for copy `i` of device `c` to have left, owing nothing. -/
theorem sent_step (c : Dev nD) (i : Fin 13) {α : Type} {Q : α → sProp 𝕄} {k : PUnit → Prog (TpuEff nD τ sig (Elt F) Λ₀ .tc) α}
    {sS : DmaSem sig} (hS : sS = sendQ i)
    {s s' : Shape} {sp sp' : Space} {e e' : EltTy} {src : Memref sig .tc sp s e} {dst : Memref sig .tc sp' s' e'} (hN : dst.view.dmaCredit = amt i.val)
    {h1 : src.view.WordExact} {h2 : dst.view.WordExact} :
    world m ρ K ⊢ iprop(owesE c (due c 13) -∗ out1 c i -∗ ((sendPay m ρ c i ∗ out2 c i ∗ owesE c (due c 13)) -∗ run c Q (k ⟨⟩))
      -∗ run c Q (.op (.waitDma2 sS src dst h1 h2) k)) := by
  subst hS
  unfold owesE out1
  iintro #HW ⟨%W, HO⟩ ⟨Hc, Hat⟩ Hk
  iapply (Rounds.wp_wait_rest_token 𝒱₀ ER (rd m ρ) (c : Thread nD τ) none (κ := K (c, .inr (.inl i)))
      (wpE_waitDma2_eq 𝒱₀ (c : Thread nD τ) none Set.univ) (Set.mem_univ _) () (O := due c 13) (W := W) (R := 0) (m := 0) (T := ∅)
      (by rw [Nat.zero_add, expect_send, hN])) $$ [Hc HO Hat]
  · isplitr; · iapply (world_inv m ρ K (c, .inr (.inl i))); iexact HW
    isplitl [Hc]; · rw [hN]; iexact Hc
    isplitl [HO]; · iexact HO
    isplitr; · rw [due_end, MayWait_zero]; iempintro
    iexact Hat
  iintro ⟨HO, Hat, -, Hpay⟩
  iapply Hk
  ihave Hp := (Entails.of_eq (rest_send m ρ c i)) $$ Hpay
  isplitl [Hp]; · iexact Hp
  isplitl [Hat]; · unfold out2; iexact Hat
  iexists _; iexact HO

/-! ## Pieces of the result -/

omit [FloatOps F] in
/-- A piece received along x is read by two copies at once, each at half the share. -/
theorem fork (c : Dev nD) (j a b : Fin 13) (hj : j.val < 4) (ha : a.val = 2 * j.val + 5) (hb : b.val = 2 * j.val + 6) :
    recvPay m ρ c j = iprop(sendPay m ρ c a ∗ sendPay m ρ c b) := by
  have ea : before a = j := by revert j a b; decide
  have eb : before b = j := by revert j a b; decide
  unfold recvPay sendPay
  rw [reg_forward c a (by omega), reg_forward c b (by omega), ea, eb]
  have sa : sh a.val = fullShare.left := by unfold sh; rw [if_neg (by omega), if_pos (by omega)]
  have sb : sh b.val = fullShare.right := by unfold sh; rw [if_neg (by omega), if_neg (by omega)]
  have h := pointsTo_share (ℓ := (c : Thread nD τ).loc cc0_stg1_0) (I := reg c j) (f := outAt m ρ c) (Ix := Unit) (Name := ℕ) (U := UU) (Lvl := ℕ)
    (PosShare.mem_left_op_right fullShare)
  rw [sa, sb]; unfold oP
  exact BI.equiv_iff.mp ⟨h.1, h.2⟩

/-- The rows of the device's own half that no copy along x reads. -/
def kept (c : Dev nD) : sProp 𝕄 :=
  bigSep (Finset.univ.filter fun i : Fin 13 => 5 ≤ i.val) fun i => oP c (reg (peer 0 c) i) fullShare (outAt m ρ c)

omit [FloatOps F] in
/-- The device's own half: the five pieces its copies along x read, and the rest. -/
theorem own_half (c : Dev nD) : oP c (own c) fullShare (outAt m ρ c)
    = iprop((bigSep (Finset.univ.filter fun i : Fin 13 => ¬ 5 ≤ i.val) fun i => sendPay m ρ c i) ∗ kept m ρ c) := by
  have h1 : oP c (own c) fullShare (outAt m ρ c) = bigSep Finset.univ fun i => oP c (reg (peer 0 c) i) fullShare (outAt m ρ c) := by
    rw [← rem_peer c, ← biUnion_reg (peer 0 c)]; unfold oP
    exact pointsTo_biUnion _ _ (reg_disjoint (peer 0 c))
  have h2 : (bigSep (Finset.univ.filter fun i : Fin 13 => ¬ 5 ≤ i.val) fun i => sendPay m ρ c i)
      = bigSep (Finset.univ.filter fun i : Fin 13 => ¬ 5 ≤ i.val) fun i => oP c (reg (peer 0 c) i) fullShare (outAt m ρ c) :=
    bigSep_congr fun i hi => by
      have hl : i.val < 5 := by have := (Finset.mem_filter.mp hi).2; omega
      have hd : dir i = 0 := by revert i; decide
      unfold sendPay sh; rw [hd, if_pos hl]
  rw [h1, h2, bigSep_filter_split Finset.univ (fun i : Fin 13 => ¬ 5 ≤ i.val)]
  unfold kept
  simp only [not_not]
  rfl

omit [FloatOps F] in
/-- The two halves of the result. -/
theorem halves (c : Dev nD) (f : (cc0_stg1_0 : Ref sig .tc).ty.Contents (Elt F)) :
    (((c : Thread nD τ).loc cc0_stg1_0) ↦{fullShare} f : sProp 𝕄) = iprop(oP c (own c) fullShare f ∗ oP c (rem c) fullShare f) := by
  have h := pointsTo_union (ℓ := (c : Thread nD τ).loc cc0_stg1_0) (q := fullShare) (f := f) (Ix := Unit) (Name := ℕ) (U := UU) (Lvl := ℕ)
    (own_disjoint_rem c)
  rw [own_union_rem] at h
  unfold oP
  exact BI.equiv_iff.mp ⟨h.1, h.2⟩

omit [FloatOps F] in
theorem rem_half (c : Dev nD) : oP c (rem c) fullShare (outAt m ρ c) = bigSep Finset.univ fun i => recvPay m ρ c i := by
  rw [← biUnion_reg c]; unfold oP recvPay oP
  exact pointsTo_biUnion _ _ (reg_disjoint c)

/-! ## Closing the cells -/

omit [FloatOps F] in
theorem by_slot (Φ : Slot → sProp 𝕄) :
    bigSep Finset.univ Φ = iprop(Φ (.inl ()) ∗ (bigSep Finset.univ fun i => Φ (.inr (.inl i))) ∗ bigSep Finset.univ fun i => Φ (.inr (.inr i))) := by
  rw [BI.bigSep_univ_sum, BI.bigSep_univ_sum (fun k => Φ (.inr k)), show (Finset.univ : Finset Unit) = {()} from rfl, bigSep_singleton]
  rfl

omit [FloatOps F] in
theorem close_all (c : Dev nD) :
    iprop(world m ρ K ∗ bigSep Finset.univ fun k : Slot => atPos ER (kcell (c, k)) 1 ∅ 0)
      ⊢ |={Set.univ}=> bigSep Finset.univ fun k : Slot => (semVal (kcell (c, k)) 0 : sProp 𝕄) := by
  have h (k : Slot) : iprop(world m ρ K ∗ atPos ER (kcell (c, k)) 1 ∅ 0) ⊢ |={Set.univ}=> (semVal (kcell (c, k)) 0 : sProp 𝕄) := by
    iintro ⟨#HW, Hat⟩
    iapply (Rounds.cell_close ER (rd m ρ) (Set.mem_univ (K (c, k))) (fun h => h) (R := 0 + 1) (duties_later m ρ (kcell (c, k)))) $$ [Hat]
    isplitr; · iapply (world_inv m ρ K (c, k)); iexact HW
    iexact Hat
  exact (bigSep_with_persistent fun k _ => h k).trans (bigSep_fupd _ _)

end Cert.Gather

end
-- ==== Proof.Body.lean ====
/-
The kernel on one device, run step by step: from what the launch deals it to its result holding the gathered array.
-/
module

public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Slot → ℕ)

/-! ## Proof data of the one point -/

/-- What stays with device `c` after the launch: its positions and the tokens of the duties it pays. -/
def linear (c : Dev nD) : sProp 𝕄 :=
  iprop(atPos ER (barCell c) 0 ∅ 0
    ∗ (bigSep Finset.univ fun d : Fin 3 => dutyTok ER (barCell (peer d c)) 0 d)
    ∗ (bigSep Finset.univ fun i => out0 c i)
    ∗ bigSep Finset.univ fun i => atPos ER (recvCell c i) 0 ∅ 0)

/-- The credit device `c` waits with: its barrier's three units and its receive cells'. -/
def credit (c : Dev nD) : sProp 𝕄 :=
  iprop(cred (tallyAt (barCell c) () 3) ∗ bigSep Finset.univ fun i : Fin 13 => cred (tallyAt (recvCell c i) () (amt i.val)))

def Φ₀ (c : Dev nD) : sProp 𝕄 := iprop((∃ K, world m ρ K ∗ linear c) ∗ credit c)
/-- After the point: all cells closed at zero. -/
def Φ₁ (c : Dev nD) : sProp 𝕄 := bigSep Finset.univ fun k : Slot => semVal (kcell (c, k)) 0

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- Device `c` has the whole of its staging buffer `b`, which holds `X`. -/
abbrev inStage (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

omit [FloatOps F] in
/-- The launch hands a buffer over as the view of all of it, which is the buffer. -/
theorem owns_inStage (c : Dev nD) (b : Ref sig .tc) (X : b.ty.Contents (Elt F)) :
    owns (Ix := Unit) (Name := ℕ) (U := UU) (Lvl := ℕ) (c : Thread nD τ) (Memref.whole b) fullShare X = inStage c b X := by
  unfold owns inStage
  rw [Memref.view_whole, View.set_whole]
  simp only [View.read_whole]

/-! ## The device's own block, stored into its result -/

omit [FloatOps F] in
theorem read_x (f : (cc0_stg0_0 : Ref sig .tc).ty.Contents (Elt F)) :
    (xM : Memref sig .tc .vmem S1024x512 .bf16).view.readAt (Elt F) (Rect.unit (s := S1024x512) ![0, 0] S1024x512.size inb_S1024x512_S1024x512_0_0).toLoadRect f = f :=
  Memref.readAt_unit_zero (Elt F) cc0_stg0_0 (funext fun a => by fin_cases a <;> rfl) _ f

abbrev ownRect (c : Dev nD) : Rect S2048x512 := Rect.unit (s := S2048x512) (k0_off1 c) S1024x512.size (k0_off1_inb c)

theorem ownRect_set (c : Dev nD) : (ownRect c).set = own c :=
  set_rect _ _ _ _ _ (by rw [k0_off1_eq]; rfl) (by rw [k0_off1_eq]; rfl) rfl rfl

theorem own_sub (c : Dev nD) : ((oM : Memref sig .tc .vmem S2048x512 .bf16).access (ownRect c)).set ⊆ own c :=
  ((View.set_slice_whole _ _).trans (ownRect_set c)).subset

/-- After the store the device's own half holds what it holds at the end. -/
theorem stored (c : Dev nD) (f : (cc0_stg1_0 : Ref sig .tc).ty.Contents (Elt F)) :
    oP c (own c) fullShare (((oM : Memref sig .tc .vmem S2048x512 .bf16).access (ownRect c)).write (Elt F) f (k0_pay1 (xstg m ρ c)) Finset.univ)
      = oP c (own c) fullShare (outAt m ρ c) := by
  have hs : ((oM : Memref sig .tc .vmem S2048x512 .bf16).access (ownRect c)).set = own c := (View.set_slice_whole _ _).trans (ownRect_set c)
  unfold oP
  refine pointsTo_congr fun p hp => ?_
  have hsrc : src c (p 0).val = c := src_own c p hp
  unfold outAt
  rw [hsrc]
  rw [← hs] at hp
  obtain ⟨y, rfl⟩ := View.exists_emb_of_mem_set _ hp
  rw [View.write_emb_of_mem _ _ (Finset.mem_univ _)]
  show k0_pay1 (xstg m ρ c) y = _
  unfold k0_pay1
  rw [shapeCast_self]
  refine congrArg (xstg m ρ c) (funext fun a => Fin.ext ?_)
  have e (a : Fin 2) : ((((oM : Memref sig .tc .vmem S2048x512 .bf16).access (ownRect c)).emb y a : Fin _) : ℕ) = k0_off1 c a + y a :=
    ValueKit.view_emb_slice_whole_unit_val cc0_stg1_0 _ _ _ y a
  match a with
  | 0 =>
    show (y 0).val = _ % 1024
    rw [e 0, k0_off1_eq]
    have hy : (y 0).val < 1024 := (y 0).isLt
    show (y 0).val = (1024 * (c.val / 4) + (y 0).val) % 1024
    omega
  | 1 =>
    show (y 1).val = _
    refine Eq.trans ?_ (e 1).symm
    rw [k0_off1_eq]
    exact (Nat.zero_add _).symm

/-! ## The rows each copy addresses -/

theorem start_x : ∀ c : Fin 8, ∀ r : Fin 4,
    1024 * (c.val / 4) + 512 * ((c.val / 2) % 2) + 256 * (c.val % 2) + 64 * r.val = row0 (peerN 0 c.val) r.val := by decide +kernel
theorem start_mid : ∀ c : Fin 8,
    (1024 * (c.val / 4) + 768) - (512 * ((c.val / 2) % 2) + 256 * (c.val % 2)) = row0 (peerN 0 c.val) 4 := by decide +kernel
theorem start_y : ∀ c : Fin 8, ∀ r : Fin 4,
    (512 * ((c.val / 2) % 2) + 256 * (c.val % 2) + 64 * r.val + 1024) - 1024 * (c.val / 4) = row0 (peerN 1 c.val) (5 + 2 * r.val) := by decide +kernel
theorem start_z : ∀ c : Fin 8, ∀ r : Fin 4,
    (512 * ((c.val / 2) % 2) + 256 * (c.val % 2) + 64 * r.val + 1024) - 1024 * (c.val / 4) = row0 (peerN 2 c.val) (6 + 2 * r.val) := by decide +kernel

/-- A rectangle from the first row of the piece copy `i` of device `c` writes, of that piece's rows, is that piece. -/
theorem set_reg (c : Dev nD) (i : Fin 13) (d : Fin 3) (hd : dir i = d) {off size : Fin 2 → ℕ} {inb} (h0 : off 0 = row0 (peerN d c.val) i.val) (h1 : off 1 = 0)
    (hn : size 0 = rows i.val) (hc : size 1 = 512) : (Rect.unit (s := S2048x512) off size inb).set = reg (peer (dir i) c) i := by
  subst hd; exact set_rect off size inb _ _ h0 h1 hn hc

theorem set_x (c : Dev nD) (r : Fin 4) (i : Fin 13) (hi : i.val = r.val) :
    (Rect.unit (s := S2048x512) (k0_off2 c (BitVec.ofNat 32 (64 * r.val))) S64x512.size (k0_off2_inb c r)).set = reg (peer (dir i) c) i :=
  set_reg c i 0 (by revert i r; decide) (by rw [k0_off2_eq, hi]; exact start_x c r) (by rw [k0_off2_eq]; rfl)
    (by unfold rows; rw [if_neg (by omega)]; rfl) rfl
theorem set_mid (c : Dev nD) :
    (Rect.unit (s := S2048x512) (k0_off3 c) S256x512.size (k0_off3_inb c)).set = reg (peer (dir 4) c) 4 :=
  set_reg c 4 0 (by decide) (by rw [k0_off3_eq]; exact start_mid c) (by rw [k0_off3_eq]; rfl) rfl rfl
theorem set_y (c : Dev nD) (r : Fin 4) (i : Fin 13) (hi : i.val = 5 + 2 * r.val) :
    (Rect.unit (s := S2048x512) (k0_off4 c (BitVec.ofNat 32 (64 * r.val))) S64x512.size (k0_off4_inb c r)).set = reg (peer (dir i) c) i :=
  set_reg c i 1 (by revert i r; decide) (by rw [k0_off4_eq, hi]; exact start_y c r) (by rw [k0_off4_eq]; rfl)
    (by unfold rows; rw [if_neg (by omega)]; rfl) rfl
theorem set_z (c : Dev nD) (r : Fin 4) (i : Fin 13) (hi : i.val = 6 + 2 * r.val) :
    (Rect.unit (s := S2048x512) (k0_off4 c (BitVec.ofNat 32 (64 * r.val))) S64x512.size (k0_off4_inb c r)).set = reg (peer (dir i) c) i :=
  set_reg c i 2 (by revert i r; decide) (by rw [k0_off4_eq, hi]; exact start_z c r) (by rw [k0_off4_eq]; rfl)
    (by unfold rows; rw [if_neg (by omega)]; rfl) rfl

theorem credit64 {off : Fin 2 → ℕ} {inb} (i : Fin 13) (h : i.val ≠ 4) : (oV off S64x512.size inb).view.dmaCredit = amt i.val := by
  unfold amt; rw [if_neg h]; rfl
theorem credit256 {off : Fin 2 → ℕ} {inb} : (oV off S256x512.size inb).view.dmaCredit = amt (4 : Fin 13).val := by
  rw [show (4 : Fin 13).val = 4 from rfl]; unfold amt; rw [if_pos rfl]; rfl

/-! ## The result put together -/

omit [FloatOps F] in
theorem bigSep_five (Φ : Fin 13 → sProp 𝕄) : bigSep (Finset.univ.filter fun i : Fin 13 => ¬ 5 ≤ i.val) Φ = iprop(Φ 0 ∗ Φ 1 ∗ Φ 2 ∗ Φ 3 ∗ Φ 4) :=
  bigSep_eq_bigSepL_of_eq [0, 1, 2, 3, 4] (by decide) (by decide) Φ

/-- The device's own half after the store: the pieces its copies along x read, and the rest. -/
theorem own_pieces (c : Dev nD) (f : (cc0_stg1_0 : Ref sig .tc).ty.Contents (Elt F)) :
    (((oM : Memref sig .tc .vmem S2048x512 .bf16).access (ownRect c)).loc (c : Thread nD τ) ↦[own c]{fullShare}
        ((oM : Memref sig .tc .vmem S2048x512 .bf16).access (ownRect c)).write (Elt F) f (k0_pay1 (xstg m ρ c)) Finset.univ)
      ⊢ (iprop((sendPay m ρ c 0 ∗ sendPay m ρ c 1 ∗ sendPay m ρ c 2 ∗ sendPay m ρ c 3 ∗ sendPay m ρ c 4) ∗ kept m ρ c) : sProp 𝕄) := by
  rw [← bigSep_five (fun i => sendPay m ρ c i), ← own_half]
  exact Entails.of_eq (stored m ρ c f)

omit [FloatOps F] in
theorem bigSep_late (Φ : Fin 13 → sProp 𝕄) : bigSep (Finset.univ.filter fun i : Fin 13 => ¬ i.val < 4) Φ
    = iprop(Φ 4 ∗ Φ 5 ∗ Φ 6 ∗ Φ 7 ∗ Φ 8 ∗ Φ 9 ∗ Φ 10 ∗ Φ 11 ∗ Φ 12) :=
  bigSep_eq_bigSepL_of_eq [4, 5, 6, 7, 8, 9, 10, 11, 12] (by decide) (by decide) Φ

omit [FloatOps F] in
theorem ins (c : Dev nD) : iprop((bigSep Finset.univ fun i : Fin 13 => cred (tallyAt (recvCell c i) () (amt i.val)))
    ∗ bigSep Finset.univ fun i => atPos ER (recvCell c i) 0 ∅ 0) ⊢ (bigSep Finset.univ fun i => in0 c i : sProp 𝕄) := by
  unfold in0; rw [bigSep_sep']

omit [FloatOps F] in
/-- All pieces read, back, and the pieces received that were not passed on: the whole result. -/
theorem whole_again (c : Dev nD) :
    iprop((bigSep Finset.univ fun i => sendPay m ρ c i) ∗ (bigSep (Finset.univ.filter fun i : Fin 13 => ¬ i.val < 4) fun i => recvPay m ρ c i) ∗ kept m ρ c)
      ⊢ (((c : Thread nD τ).loc cc0_stg1_0) ↦{fullShare} outAt m ρ c : sProp 𝕄) := by
  rw [halves, own_half, rem_half, bigSep_five, bigSep_filter_split Finset.univ (fun i : Fin 13 => i.val < 4) (Φ := fun i => recvPay m ρ c i), bigSep_fin13,
    bigSep_eq_bigSepL_of_eq [0, 1, 2, 3] (S := Finset.univ.filter fun i : Fin 13 => i.val < 4) (by decide) (by decide)]
  show _ ⊢ iprop(_ ∗ (recvPay m ρ c 0 ∗ recvPay m ρ c 1 ∗ recvPay m ρ c 2 ∗ recvPay m ρ c 3) ∗ _)
  rw [fork m ρ c 0 5 6 (by decide) rfl rfl, fork m ρ c 1 7 8 (by decide) rfl rfl, fork m ρ c 2 9 10 (by decide) rfl rfl, fork m ρ c 3 11 12 (by decide) rfl rfl]
  iintro ⟨⟨S0, S1, S2, S3, S4, S5, S6, S7, S8, S9, S10, S11, S12⟩, HR, HK⟩
  isplitl [S0 S1 S2 S3 S4 HK]
  · isplitr [HK]
    · isplitl [S0]; · iexact S0
      isplitl [S1]; · iexact S1
      isplitl [S2]; · iexact S2
      isplitl [S3] <;> iassumption
    iexact HK
  isplitr [HR]
  · isplitl [S5 S6]; · isplitl [S5] <;> iassumption
    isplitl [S7 S8]; · isplitl [S7] <;> iassumption
    isplitl [S9 S10]; · isplitl [S9] <;> iassumption
    isplitl [S11] <;> iassumption
  iexact HR

/-! ## The whole program of one device -/

def bodyPre (c : Dev nD) : sProp 𝕄 :=
  iprop((world m ρ K ∗ linear c ∗ credit c)
    ∗ (dats m ρ 0 c).owesAt () t0_0.castSucc
    ∗ (∃ d, inStage c cc0_stg0_0 ((dats m ρ 0 c).before (0 : Fin 2) t0_0 d))
    ∗ (∃ d, inStage c cc0_stg1_0 ((dats m ρ 0 c).before (1 : Fin 2) t0_0 d)))

def bodyPost (c : Dev nD) : sProp 𝕄 :=
  iprop(Φ₁ c ∗ (dats m ρ 0 c).owesAt () t0_0.succ ∗ inStage c cc0_stg0_0 (xstg m ρ c) ∗ inStage c cc0_stg1_0 (outAt m ρ c))

set_option maxHeartbeats 800000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            cc0_scratch0 cc0_scratch1) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton]
  unfold k0_part1_skel k0_part2_skel k0_part3_skel k0_part4_skel k0_part5_skel k0_part6_skel k0_part7_skel k0_part8_skel k0_part9_skel
    k0_part10_skel k0_part11_skel k0_part12_skel k0_part13_skel
  simp only [semSignalWord, semWaitWord, Prog.lift, Prog.bind_op, Prog.bind_ret, Prog.pure_eq_ret, wp_deviceId]
  unfold bodyPre linear credit
  iintro ⟨⟨⟨#HW, ⟨HatB, HtB, HX, HatR⟩, HcB, HcR⟩, Ho, ⟨%d0, %g0, %hg0, Hx⟩, ⟨%d1, %g1, %hg1, Hout⟩⟩, Hk⟩
  have hx : g0 = xstg m ρ c := by rw [hg0]; unfold Dat.before; rw [if_pos (fetch0_0 t0_0)]; rfl
  subst hx
  unfold Dat.owesAt Pipeline.owesWithin
  icases Ho with ⟨%W, %hW, HO⟩
  ihave HO := (show iprop(owes (c : Thread nD τ) ((dats m ρ 0 c).owed t0_0.castSucc) W) ⊢ owesE c (owe1 c + tallyAt (barCell (peer 0 c)) () 1) from
    BIClass.exists_intro (Φ := fun W => (owes (c : Thread nD τ) (O₀ c) W : sProp 𝕄)) W) $$ HO
  ihave HtB := (Entails.of_eq (bigSep_fin3 (fun d : Fin 3 => dutyTok ER (barCell (peer d c)) 0 d))) $$ HtB
  icases HtB with ⟨T0, T1, T2⟩
  ihave Hout := (Entails.of_eq (halves c g1)) $$ Hout
  icases Hout with ⟨Hown, Hrem⟩
  ihave Hrem := (hand_over c g1) $$ Hrem
  icases Hrem with ⟨B0, B1, B2⟩
  -- the three signals, each with the rows the neighbour will write here
  iapply (signal_step m ρ K c 0 _ (peer_x c (k0_dev1_eq c)) (owe1 c) (by decide)) $$ HW HO T0 B0; iintro HO
  unfold owe1
  iapply (signal_step m ρ K c 1 _ (peer_y c (k0_dev2_eq c)) (owe2 c) (by decide)) $$ HW HO T1 B1; iintro HO
  unfold owe2
  iapply (signal_step m ρ K c 2 _ (peer_z c (k0_dev3_eq c)) (due c 0) (by decide)) $$ HW HO T2 B2; iintro HO
  -- the device's own block
  iapply (wp_load 𝒱₀ (c : Thread nD τ) none Set.univ (m := xM) (Finset.subset_univ _)) $$ Hx; iintro Hx
  rw [read_x]
  unfold oP
  iapply (wp_load_rect 𝒱₀ (c : Thread nD τ) none Set.univ (m := oM) (r := ownRect c) (own_sub c)) $$ Hown; iintro Hown
  iapply (wp_store 𝒱₀ (c : Thread nD τ) none Set.univ (m := oM) (r := ownRect c) (Mk := Finset.univ) (own_sub c)) $$ Hown; iintro Hown
  ihave Hown := (own_pieces m ρ c g1) $$ Hown
  icases Hown with ⟨⟨S0, S1, S2, S3, S4⟩, HK⟩
  -- the barrier
  ihave HB := (show iprop(cred (tallyAt (barCell c) () 3) ∗ atPos ER (barCell c) 0 ∅ 0) ⊢ iprop(cred (tallyAt (barCell c) () 3) ∗ atPos ER (barCell c) 0 ∅ 0) from
    BI.Entails.refl _) $$ [HcB HatB]
  · isplitl [HcB] <;> iassumption
  iapply (barrier_step m ρ K c (by decide)) $$ HW HO HB; iintro ⟨HD, HatB, HO⟩
  ihave HY := (ins c) $$ [HcR HatR]
  · isplitl [HcR] <;> iassumption
  ihave HD := (Entails.of_eq (bigSep_fin13 (fun i => dstPay c i))) $$ HD
  icases HD with ⟨D0, D1, D2, D3, D4, D5, D6, D7, D8, D9, D10, D11, D12⟩
  ihave HX := (Entails.of_eq (bigSep_fin13 (fun i => out0 c i))) $$ HX
  icases HX with ⟨X0, X1, X2, X3, X4, X5, X6, X7, X8, X9, X10, X11, X12⟩
  ihave HY := (Entails.of_eq (bigSep_fin13 (fun i => in0 c i))) $$ HY
  icases HY with ⟨Y0, Y1, Y2, Y3, Y4, Y5, Y6, Y7, Y8, Y9, Y10, Y11, Y12⟩
  -- the copies along x start
  iapply (send_step m ρ K c 0 _ (peer_x c (k0_dev4_eq c)) (set_x c 0 0 rfl) rfl rfl (credit64 0 (by decide)) (j := 0) (j' := 1) rfl rfl) $$ HW HO X0 D0 S0; iintro ⟨X0, HO⟩
  iapply (send_step m ρ K c 1 _ (peer_x c (k0_dev5_eq c)) (set_x c 1 1 rfl) rfl rfl (credit64 1 (by decide)) (j := 1) (j' := 2) rfl rfl) $$ HW HO X1 D1 S1; iintro ⟨X1, HO⟩
  iapply (send_step m ρ K c 2 _ (peer_x c (k0_dev6_eq c)) (set_x c 2 2 rfl) rfl rfl (credit64 2 (by decide)) (j := 2) (j' := 3) rfl rfl) $$ HW HO X2 D2 S2; iintro ⟨X2, HO⟩
  iapply (send_step m ρ K c 3 _ (peer_x c (k0_dev7_eq c)) (set_x c 3 3 rfl) rfl rfl (credit64 3 (by decide)) (j := 3) (j' := 4) rfl rfl) $$ HW HO X3 D3 S3; iintro ⟨X3, HO⟩
  iapply (send_step m ρ K c 4 _ (peer_x c (k0_dev8_eq c)) (set_mid c) rfl rfl credit256 (j := 4) (j' := 5) rfl rfl) $$ HW HO X4 D4 S4; iintro ⟨X4, HO⟩
  -- each 64-row piece that arrives along x is passed on along y and z
  iapply (recv_step m ρ K c 0 rfl (j := 5) (by decide) (credit64 0 (by decide))) $$ HW HO Y0; iintro ⟨R0, Y0, HO⟩
  ihave R0 := (Entails.of_eq (fork m ρ c 0 5 6 (by decide) rfl rfl)) $$ R0
  icases R0 with ⟨S5, S6⟩
  iapply (send_step m ρ K c 5 _ (peer_y c (k0_dev9_eq c)) (set_y c 0 5 rfl) rfl rfl (credit64 5 (by decide)) (j := 5) (j' := 6) rfl rfl) $$ HW HO X5 D5 S5; iintro ⟨X5, HO⟩
  iapply (send_step m ρ K c 6 _ (peer_z c (k0_dev10_eq c)) (set_z c 0 6 rfl) rfl rfl (credit64 6 (by decide)) (j := 6) (j' := 7) rfl rfl) $$ HW HO X6 D6 S6; iintro ⟨X6, HO⟩
  iapply (recv_step m ρ K c 1 rfl (j := 7) (by decide) (credit64 1 (by decide))) $$ HW HO Y1; iintro ⟨R1, Y1, HO⟩
  ihave R1 := (Entails.of_eq (fork m ρ c 1 7 8 (by decide) rfl rfl)) $$ R1
  icases R1 with ⟨S7, S8⟩
  iapply (send_step m ρ K c 7 _ (peer_y c (k0_dev11_eq c)) (set_y c 1 7 rfl) rfl rfl (credit64 7 (by decide)) (j := 7) (j' := 8) rfl rfl) $$ HW HO X7 D7 S7; iintro ⟨X7, HO⟩
  iapply (send_step m ρ K c 8 _ (peer_z c (k0_dev12_eq c)) (set_z c 1 8 rfl) rfl rfl (credit64 8 (by decide)) (j := 8) (j' := 9) rfl rfl) $$ HW HO X8 D8 S8; iintro ⟨X8, HO⟩
  iapply (recv_step m ρ K c 2 rfl (j := 9) (by decide) (credit64 2 (by decide))) $$ HW HO Y2; iintro ⟨R2, Y2, HO⟩
  ihave R2 := (Entails.of_eq (fork m ρ c 2 9 10 (by decide) rfl rfl)) $$ R2
  icases R2 with ⟨S9, S10⟩
  iapply (send_step m ρ K c 9 _ (peer_y c (k0_dev13_eq c)) (set_y c 2 9 rfl) rfl rfl (credit64 9 (by decide)) (j := 9) (j' := 10) rfl rfl) $$ HW HO X9 D9 S9; iintro ⟨X9, HO⟩
  iapply (send_step m ρ K c 10 _ (peer_z c (k0_dev14_eq c)) (set_z c 2 10 rfl) rfl rfl (credit64 10 (by decide)) (j := 10) (j' := 11) rfl rfl) $$ HW HO X10 D10 S10; iintro ⟨X10, HO⟩
  iapply (recv_step m ρ K c 3 rfl (j := 11) (by decide) (credit64 3 (by decide))) $$ HW HO Y3; iintro ⟨R3, Y3, HO⟩
  ihave R3 := (Entails.of_eq (fork m ρ c 3 11 12 (by decide) rfl rfl)) $$ R3
  icases R3 with ⟨S11, S12⟩
  iapply (send_step m ρ K c 11 _ (peer_y c (k0_dev15_eq c)) (set_y c 3 11 rfl) rfl rfl (credit64 11 (by decide)) (j := 11) (j' := 12) rfl rfl) $$ HW HO X11 D11 S11; iintro ⟨X11, HO⟩
  iapply (send_step m ρ K c 12 _ (peer_z c (k0_dev16_eq c)) (set_z c 3 12 rfl) rfl rfl (credit64 12 (by decide)) (j := 12) (j' := 13) rfl rfl) $$ HW HO X12 D12 S12; iintro ⟨X12, HO⟩
  -- everything else arrives
  iapply (recv_step m ρ K c 4 rfl (j := 13) (by decide) credit256) $$ HW HO Y4; iintro ⟨R4, Y4, HO⟩
  iapply (recv_step m ρ K c 5 rfl (j := 13) (by decide) (credit64 5 (by decide))) $$ HW HO Y5; iintro ⟨R5, Y5, HO⟩
  iapply (recv_step m ρ K c 6 rfl (j := 13) (by decide) (credit64 6 (by decide))) $$ HW HO Y6; iintro ⟨R6, Y6, HO⟩
  iapply (recv_step m ρ K c 7 rfl (j := 13) (by decide) (credit64 7 (by decide))) $$ HW HO Y7; iintro ⟨R7, Y7, HO⟩
  iapply (recv_step m ρ K c 8 rfl (j := 13) (by decide) (credit64 8 (by decide))) $$ HW HO Y8; iintro ⟨R8, Y8, HO⟩
  iapply (recv_step m ρ K c 9 rfl (j := 13) (by decide) (credit64 9 (by decide))) $$ HW HO Y9; iintro ⟨R9, Y9, HO⟩
  iapply (recv_step m ρ K c 10 rfl (j := 13) (by decide) (credit64 10 (by decide))) $$ HW HO Y10; iintro ⟨R10, Y10, HO⟩
  iapply (recv_step m ρ K c 11 rfl (j := 13) (by decide) (credit64 11 (by decide))) $$ HW HO Y11; iintro ⟨R11, Y11, HO⟩
  iapply (recv_step m ρ K c 12 rfl (j := 13) (by decide) (credit64 12 (by decide))) $$ HW HO Y12; iintro ⟨R12, Y12, HO⟩
  -- everything has left
  iapply (sent_step m ρ K c 0 rfl (credit64 0 (by decide))) $$ HW HO X0; iintro ⟨S0, X0, HO⟩
  iapply (sent_step m ρ K c 1 rfl (credit64 1 (by decide))) $$ HW HO X1; iintro ⟨S1, X1, HO⟩
  iapply (sent_step m ρ K c 2 rfl (credit64 2 (by decide))) $$ HW HO X2; iintro ⟨S2, X2, HO⟩
  iapply (sent_step m ρ K c 3 rfl (credit64 3 (by decide))) $$ HW HO X3; iintro ⟨S3, X3, HO⟩
  iapply (sent_step m ρ K c 4 rfl credit256) $$ HW HO X4; iintro ⟨S4, X4, HO⟩
  iapply (sent_step m ρ K c 5 rfl (credit64 5 (by decide))) $$ HW HO X5; iintro ⟨S5, X5, HO⟩
  iapply (sent_step m ρ K c 6 rfl (credit64 6 (by decide))) $$ HW HO X6; iintro ⟨S6, X6, HO⟩
  iapply (sent_step m ρ K c 7 rfl (credit64 7 (by decide))) $$ HW HO X7; iintro ⟨S7, X7, HO⟩
  iapply (sent_step m ρ K c 8 rfl (credit64 8 (by decide))) $$ HW HO X8; iintro ⟨S8, X8, HO⟩
  iapply (sent_step m ρ K c 9 rfl (credit64 9 (by decide))) $$ HW HO X9; iintro ⟨S9, X9, HO⟩
  iapply (sent_step m ρ K c 10 rfl (credit64 10 (by decide))) $$ HW HO X10; iintro ⟨S10, X10, HO⟩
  iapply (sent_step m ρ K c 11 rfl (credit64 11 (by decide))) $$ HW HO X11; iintro ⟨S11, X11, HO⟩
  iapply (sent_step m ρ K c 12 rfl (credit64 12 (by decide))) $$ HW HO X12; iintro ⟨S12, X12, HO⟩
  -- the result whole again, and every cell closed
  ihave Hout := (whole_again m ρ c) $$ [S0 S1 S2 S3 S4 S5 S6 S7 S8 S9 S10 S11 S12 R4 R5 R6 R7 R8 R9 R10 R11 R12 HK]
  · rw [bigSep_fin13, bigSep_late]
    isplitl [S0 S1 S2 S3 S4 S5 S6 S7 S8 S9 S10 S11 S12]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11] <;> iassumption
    isplitr [HK]
    · isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11] <;> iassumption
    iexact HK
  ihave HX := (Entails.of_eq (bigSep_fin13 (fun i => out2 c i)).symm) $$ [X0 X1 X2 X3 X4 X5 X6 X7 X8 X9 X10 X11 X12]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11] <;> iassumption
  ihave HY := (Entails.of_eq (bigSep_fin13 (fun i => in1 c i)).symm) $$ [Y0 Y1 Y2 Y3 Y4 Y5 Y6 Y7 Y8 Y9 Y10 Y11 Y12]
  · isplitl [Y0]; · iexact Y0
    isplitl [Y1]; · iexact Y1
    isplitl [Y2]; · iexact Y2
    isplitl [Y3]; · iexact Y3
    isplitl [Y4]; · iexact Y4
    isplitl [Y5]; · iexact Y5
    isplitl [Y6]; · iexact Y6
    isplitl [Y7]; · iexact Y7
    isplitl [Y8]; · iexact Y8
    isplitl [Y9]; · iexact Y9
    isplitl [Y10]; · iexact Y10
    isplitl [Y11] <;> iassumption
  unfold out2 in1
  imod (close_all m ρ K c) $$ [HatB HX HY] with HZ
  · isplitr; · iexact HW
    rw [by_slot]
    isplitl [HatB]; · iexact HatB
    isplitl [HX] <;> iassumption
  rw [wp_ret]; imodintro
  iapply Hk
  unfold bodyPost Φ₁ Dat.owesAt Pipeline.owesWithin owesE
  rw [show (dats m ρ 0 c).owed t0_0.succ = 0 from rfl, due_end]
  isplitl [HZ]; · iexact HZ
  isplitl [HO]
  · icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t0_0.castSucc
    ∗ (∃ d, inStage c cc0_stg0_0 ((dats m ρ 0 c).before (0 : Fin 2) t0_0 d))
    ∗ (∃ d, inStage c cc0_stg1_0 ((dats m ρ 0 c).before (1 : Fin 2) t0_0 d)))

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_inStage]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      cc0_scratch0 cc0_scratch1) (fun _ => bodyPost m ρ c)
  unfold bodyPre' Φ₀
  iintro ⟨⟨⟨%K, HW, Hl⟩, Hc⟩, Hrest⟩
  iapply (sound_body m ρ K c fun _ => bodyPost m ρ c)
  unfold bodyPre
  isplitr []
  · isplitl [HW Hl Hc]
    · isplitl [HW]; · iexact HW
      isplitl [Hl] <;> iassumption
    iexact Hrest
  · iintro H; iexact H

end Cert.Gather

end
-- ==== Proof.Run.lean ====
/-
The launch: what each device is dealt, and the run of the whole mesh from any memory.
-/
module

public import proofs.«01_k».proof.Proof.Body
public import Idealize.ShloMosaic.Adequacy
public import Idealize.ShloMosaic.Init

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the duty tokens the launch makes -/

theorem own_sems : Pipeline.OwnSemFacts cfg0.spec osem := by decide

theorem full_share (c : Dev nD) (w : Fin cfg0.W) : (dats m ρ 0 c).share w = fullShare := by unfold Dat.share; split <;> rfl

theorem csem_injective : Function.Injective csem := by decide

theorem kcell_injective : Function.Injective kcell := fun a b h =>
  Prod.ext (congrArg (fun g : GSem nD τ sig => g.1.1) h) (csem_injective (congrArg Prod.snd h))

def gatherCells : Finset (GSem nD τ sig) := Finset.univ.map ⟨kcell, kcell_injective⟩

/-- The duties at one device's cells: three at its barrier, one at each send and each receive cell. -/
abbrev Duty : Type := Fin 3 ⊕ Own
abbrev dutyOf : Duty → SemLoc sig × Fin 3
  | .inl d => (.reg barS, d)
  | .inr k => (osem k, 0)
theorem dutyOf_injective : Function.Injective dutyOf := by decide

abbrev tokOf (cj : Dev nD × Duty) : GSem nD τ sig × ℕ × Fin 3 := (((cj.1 : Thread nD τ), (dutyOf cj.2).1), 0, (dutyOf cj.2).2)
theorem tokOf_injective : Function.Injective tokOf := fun a b h =>
  Prod.ext (congrArg (fun x : GSem nD τ sig × ℕ × Fin 3 => x.1.1.1) h)
    (dutyOf_injective (Prod.ext (congrArg (fun x : GSem nD τ sig × ℕ × Fin 3 => x.1.2) h)
      (congrArg (fun x : GSem nD τ sig × ℕ × Fin 3 => x.2.2) h)))
def gatherToks : Finset (GSem nD τ sig × ℕ × Fin 3) := Finset.univ.map ⟨tokOf, tokOf_injective⟩

def u₀ : UU :=
  (initOf (Pipeline.cells cfgs cellOf_inj) (Pipeline.launchToks cfgs cellOf_inj), initOf gatherCells gatherToks)

/-- The duty tokens of device `c`'s own cells. -/
def toks (c : Dev nD) : sProp 𝕄 :=
  iprop((bigSep Finset.univ fun d : Fin 3 => dutyTok ER (barCell c) 0 d)
    ∗ (bigSep Finset.univ fun i : Fin 13 => dutyTok ER (sendCell c i) 0 0)
    ∗ bigSep Finset.univ fun i : Fin 13 => dutyTok ER (recvCell c i) 0 0)

/-- The tokens of the duties device `c` pays. -/
def payToks (c : Dev nD) : sProp 𝕄 :=
  iprop((bigSep Finset.univ fun d : Fin 3 => dutyTok ER (barCell (peer d c)) 0 d)
    ∗ (bigSep Finset.univ fun i : Fin 13 => dutyTok ER (sendCell c i) 0 0)
    ∗ bigSep Finset.univ fun i : Fin 13 => dutyTok ER (recvCell (peer (dir i) c) i) 0 0)

/-- What the launch deals device `c` before any invariant stands. -/
def G (c : Dev nD) : sProp 𝕄 :=
  iprop((bigSep Finset.univ fun k : Slot => roundState ER (rd m ρ) (kcell (c, k)) 0)
    ∗ (bigSep Finset.univ fun k : Slot => iprop(atPos ER (kcell (c, k)) 0 ∅ 0 ∗ reached ER (kcell (c, k)) 0)) ∗ toks c)

/-- What every device knows, but for the levels. -/
def records (K : Dev nD × Slot → ℕ) : sProp 𝕄 :=
  iprop((bigSep Finset.univ fun ck : Dev nD × Slot => cellInv ER (rd m ρ) (K ck) (kcell ck))
    ∗ bigSep Finset.univ fun ck : Dev nD × Slot => reached ER (kcell ck) 0)

instance records_persistent (K : Dev nD × Slot → ℕ) : BI.Persistent (records m ρ K) := by unfold records; infer_instance

/-- What device `c` holds once all invariants stand. -/
def G' (c : Dev nD) : sProp 𝕄 := iprop(∃ K, records m ρ K ∗ linear c)

omit [FloatOps F] in
theorem by_duty (Φ : Duty → sProp 𝕄) :
    bigSep Finset.univ Φ = iprop((bigSep Finset.univ fun d => Φ (.inl d)) ∗ (bigSep Finset.univ fun i => Φ (.inr (.inl i))) ∗ bigSep Finset.univ fun i => Φ (.inr (.inr i))) := by
  rw [BI.bigSep_univ_sum, BI.bigSep_univ_sum (fun k => Φ (.inr k))]
  rfl

omit [FloatOps F] in
theorem fund_gather : BI.own (ER (initOf gatherCells gatherToks)) ⊢ (|==> bigSep Finset.univ (G m ρ) : sProp 𝕄) := by
  have hX (Φ : GSem nD τ sig → sProp 𝕄) : bigSep gatherCells Φ = bigSep Finset.univ fun c : Dev nD => bigSep Finset.univ fun k : Slot => Φ (kcell (c, k)) := by
    unfold gatherCells; rw [bigSep_map, bigSep_univ_prod]; rfl
  have hT : bigSep gatherToks (fun x => (dutyTok ER x.1 x.2.1 x.2.2 : sProp 𝕄)) = bigSep Finset.univ fun c : Dev nD => toks c := by
    unfold gatherToks; rw [bigSep_map, bigSep_univ_prod]
    exact bigSep_congr fun c _ => by unfold toks; rw [by_duty]; rfl
  iintro HX
  imod (Rounds.fund ER (rd m ρ) gatherCells gatherToks) $$ HX with ⟨Hst, Hr, Hat, Htok⟩
  imodintro
  ihave Hst' := (Entails.of_eq (hX fun g => roundState ER (rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## All semaphores at zero, and the invariants made from them -/

omit [FloatOps F] in
theorem unscoped_bar (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's cells of the gather at zero are the barrier and the kernel's own semaphores at zero. -/
theorem all_zero (c : Dev nD) :
    (bigSep Finset.univ fun k : Slot => semVal (kcell (c, k)) 0 : sProp 𝕄)
      = iprop(unscopedSems0 c ∗ Pipeline.ownSems0 (Ix := Unit) (Name := ℕ) (U := UU) (Lvl := ℕ) (Val := Elt F) (τ := τ) osem c) := by
  rw [unscoped_bar, BI.bigSep_univ_sum, show (Finset.univ : Finset Unit) = {()} from rfl, bigSep_singleton]
  rfl

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (all_zero (F := F) c).symm) $$ [Hos Hus]
  · isplitl [Hus] <;> iassumption
  imod (show iprop((bigSep Finset.univ fun k : Slot => semVal (kcell (c, k)) 0) ∗ bigSep Finset.univ fun k : Slot => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to the devices that pay with them -/

omit [FloatOps F] in
/-- Dealing by a family of permutations of the devices, one for each index, deals everything once. -/
theorem deal {I : Type} [Fintype I] [DecidableEq I] (e : I → Dev nD ≃ Dev nD) (Φ : Dev nD → I → sProp 𝕄) :
    (bigSep Finset.univ fun c => bigSep Finset.univ fun i => Φ c i) = bigSep Finset.univ fun c => bigSep Finset.univ fun i => Φ (e i c) i := by
  rw [bigSep_univ_comm, bigSep_univ_comm (fun c i => Φ (e i c) i)]
  exact bigSep_congr fun i _ => bigSep_univ_equiv (e i) (fun c => Φ c i)

omit [FloatOps F] in
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    deal around (fun c d => (dutyTok ER (barCell c) 0 d : sProp 𝕄)),
    deal (fun i : Fin 13 => around (dir i)) (fun c i => (dutyTok ER (recvCell c i) 0 0 : sProp 𝕄))]
  exact BIClass.entails_refl _

omit [FloatOps F] in
theorem hold (c : Dev nD) :
    iprop((bigSep Finset.univ fun k : Slot => (atPos ER (kcell (c, k)) 0 ∅ 0 : sProp 𝕄)) ∗ payToks c) ⊢ linear c := by
  unfold payToks linear out0
  rw [by_slot, bigSep_sep', bigSep_sep']
  iintro ⟨⟨HB, HS, HR⟩, HtB, HtS, HtR⟩
  isplitl [HB]; · iexact HB
  isplitl [HtB]; · iexact HtB
  isplitl [HS HtS HtR]
  · isplitl [HtS]; · iexact HtS
    isplitl [HtR]; · iexact HtR
    iexact HS
  iexact HR

omit [FloatOps F] in
theorem know (K : Dev nD × Slot → ℕ) (c : Dev nD) : iprop(records m ρ K ∗ linear c) ⊢ G' m ρ c := by
  unfold G'
  iintro H
  iexists K
  iexact H

omit [FloatOps F] in
theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Slot => iprop(∃ κ : ℕ, cellInv ER (rd m ρ) κ (kcell ck))),
    bigSep_congr (s := Finset.univ) (fun (c : Dev nD) _ => bigSep_sep' Finset.univ (fun k : Slot => (atPos ER (kcell (c, k)) 0 ∅ 0 : sProp 𝕄)) (fun k => reached ER (kcell (c, k)) 0)),
    bigSep_sep', ← bigSep_univ_prod (fun ck : Dev nD × Slot => (reached ER (kcell ck) 0 : sProp 𝕄))]
  iintro ⟨HI, ⟨Hat, #HR⟩, Htok⟩
  ihave HK := (BI.bigSep_exists_pi Finset.univ (fun (ck : Dev nD × Slot) (κ : ℕ) => (cellInv ER (rd m ρ) κ (kcell ck) : sProp 𝕄))) $$ HI
  icases HK with ⟨%K, #HI⟩
  ihave Htk := (toks_around (F := F)) $$ Htok
  iapply (bigSep_with_persistent (R := records m ρ K) fun c _ => know m ρ K c)
  isplitr
  · unfold records; isplitl; · iexact HI
    iexact HR
  · iapply ((Entails.of_eq (bigSep_sep' Finset.univ (fun c : Dev nD => bigSep Finset.univ fun k : Slot => (atPos ER (kcell (c, k)) 0 ∅ 0 : sProp 𝕄)) payToks).symm).trans
      (bigSep_mono fun c _ => hold c))
    isplitl [Hat]; · iexact Hat
    iexact Htk

omit [FloatOps F] in
/-- All devices' invariants, allocated at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit -/

omit [FloatOps F] in
/-- One unit owed to each device's barrier by its neighbour along `d` is one unit of credit for it. -/
theorem cred_bar (d : Fin 3) (c : Dev nD) :
    (Pipeline.launchCred (fun e => tallyAt (barCell (peer d e)) () 1) c : sProp 𝕄) ⊢ cred (tallyAt (barCell c) () 1) :=
  Pipeline.launchCred_tallyAt (.reg barS) (peer d) (peer d) (peer_peer d) (peer_peer d) () 1 c

omit [FloatOps F] in
theorem cred_recv (i : Fin 13) (c : Dev nD) :
    (Pipeline.launchCred (fun e => tallyAt (recvCell (peer (dir i) e) i) () (amt i.val)) c : sProp 𝕄) ⊢ cred (tallyAt (recvCell c i) () (amt i.val)) :=
  Pipeline.launchCred_tallyAt (.dma (recvQ i)) (peer (dir i)) (peer (dir i)) (peer_peer _) (peer_peer _) () (amt i.val) c

omit [FloatOps F] in
theorem creds_recv (c : Dev nD) :
    (bigSep Finset.univ fun i : Fin 13 => (Pipeline.launchCred (fun e => tallyAt (recvCell (peer (dir i) e) i) () (amt i.val)) c : sProp 𝕄))
      ⊢ bigSep Finset.univ fun i : Fin 13 => cred (tallyAt (recvCell c i) () (amt i.val)) :=
  bigSep_mono fun i _ => cred_recv i c

theorem three_units (c : Dev nD) : (tallyAt (barCell c) () 3 : CellTallies nD τ sig Unit)
    = tallyAt (barCell c) () 1 + (tallyAt (barCell c) () 1 + tallyAt (barCell c) () 1) := by
  rw [tallyAt_add, tallyAt_add]

omit [FloatOps F] in
theorem creds (c : Dev nD) : (Pipeline.launchCred O₀ c : sProp 𝕄) ⊢ credit c := by
  have h0 : (Finset.univ.filter fun i : Fin 13 => 0 ≤ i.val) = Finset.univ := by decide
  have hO : (O₀ : Dev nD → CellTallies nD τ sig Unit) = fun e => ((∑ i : Fin 13, tallyAt (recvCell (peer (dir i) e) i) () (amt i.val))
      + tallyAt (barCell (peer 2 e)) () 1 + tallyAt (barCell (peer 1 e)) () 1) + tallyAt (barCell (peer 0 e)) () 1 := by
    funext e; unfold O₀ owe1 owe2 due; rw [h0]
  rw [hO, Pipeline.launchCred_add, Pipeline.launchCred_add, Pipeline.launchCred_add, Pipeline.launchCred_sum]
  unfold credit
  rw [three_units]
  iintro ⟨⟨⟨HR, H2⟩, H1⟩, H0⟩
  isplitr [HR]
  · iapply (cred_add _ _).2
    isplitl [H0]; · iapply (cred_bar (F := F) 0 c); iexact H0
    iapply (cred_add _ _).2
    isplitl [H1]; · iapply (cred_bar (F := F) 1 c); iexact H1
    iapply (cred_bar (F := F) 2 c); iexact H2
  · iapply (creds_recv (F := F) c)
    iexact HR

/-! ## Into and out of the region -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(Φ₀ m ρ c ∗ emp) := by
  unfold G' Φ₀
  iintro ⟨-, Hlev, Hcr, -, ⟨%K, HR, HL⟩⟩
  ihave Hc := (creds (F := F) c) $$ Hcr
  unfold records
  icases HR with ⟨HI, HR⟩
  imodintro
  isplitl
  · isplitr [Hc]
    · iexists K
      isplitr [HL]
      · unfold world
        isplitl [HI]; · iexact HI
        isplitl [HR]; · iexact HR
        iexact Hlev
      · iexact HL
    · iexact Hc
  · iempintro

theorem region_in (c : Dev nD) :
    iprop(Φ₀ m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  iintro ⟨Hs, -, -⟩
  iexact Hs

theorem region_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  rw [all_zero]
  iintro ⟨HB, HO⟩
  isplitl [HB]; · iexact HB
  isplitl [HO]; · iexact HO
  iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The result array after the region -/

/-- A device's staged block is its argument. -/
theorem xstg_eq (c : Dev nD) : xstg m ρ c = m ((c : Thread nD τ).loc main_arg0) := by
  unfold xstg
  refine funext fun y => congrArg (m ((c : Thread nD τ).loc main_arg0)) (funext fun a => Fin.ext ?_)
  refine (ValueKit.view_emb_slice_whole_unit_val main_arg0 _ _ _ y a).trans ?_
  show 0 * _ + (y a).val = (y a).val
  rw [Nat.zero_mul, Nat.zero_add]

theorem final_out (c : Dev nD) : (dats m ρ 0 c).arrAt (1 : Fin 2) cfg0.N = outAt m ρ c :=
  (dats m ρ 0 c).arrAt_eq_of_after_last (1 : Fin 2) t0_0 (by decide +kernel) (outAt m ρ c) fun j => rfl

theorem final_x (c : Dev nD) : (dats m ρ 0 c).arrAt (0 : Fin 2) cfg0.N = m ((c : Thread nD τ).loc main_arg0) :=
  (dats (F := F) m ρ 0 c).arrAt_in (0 : Fin 2) rfl _

/-! ## The run -/

/-- What a final state holds: each device's argument as launched, its result gathered, every semaphore at zero. -/
def Final (r : PUnit × MemSt nD τ sig (Elt F)) : Prop :=
  (∀ c : Dev nD, r.2.mem ((c : Thread nD τ).loc main_v1) = outAt m ρ c
    ∧ r.2.mem ((c : Thread nD τ).loc main_arg0) = m ((c : Thread nD τ).loc main_arg0))
  ∧ r.2.sem = fun _ => 0

def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- From any memory with zero counters, every weakly fair execution of the eight devices ends, each array as the
    region leaves it and every counter at zero. -/
theorem run_region : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := fun c => body_obligation m ρ c) (hne := fun w => by fin_cases w <;> exact Nat.succ_pos _) (harr := arr_whole0) (hstage := stage_whole0) (hshare := full_share m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_gather m ρ) $$ HX with HG
      imodintro
      isplitl [HP] <;> iassumption)
    (hglob := glob m ρ)
    (hA := fun _ _ => rfl) (hpf := fun _ k => k.elim0)
    (X := Φ₀ m ρ) (Y := fun c => unscopedSems0 c) (Z := fun _ => iprop(emp))
    (hX := start_intro m ρ) (hin := region_in m ρ) (hout := region_out m ρ)
    (QY := fun c s => ∀ sm : SemLoc sig, sm.isScoped .tc = false → s.sem ((c.tc : Thread nD τ), sm) = 0)
    (hY := fun c s' => by
      iintro ⟨Hu, -, HSI⟩
      ihave %h := (tcUnscoped_read c s') $$ [Hu HSI]
      · isplitl [Hu] <;> iassumption
      imodintro
      isplitr; · ipureintro; exact h
      iexact HSI)
    (hQ := fun _ h hs => ⟨fun c w => (h c).1 w, sem_eq_zero hs fun c => (h c).2.2⟩)

/-- From any memory with zero counters, every weakly fair execution of the eight devices ends with each device's result
    gathered, its argument as launched and every counter at zero. -/
theorem run_main : θ_run defs (onTc (τ := τ) (main (F := F))) (s₀ m ρ) (Final m ρ) :=
  (θ_run defs _ _).mono (fun _ h => ⟨fun c => ⟨(h.1 c (1 : Fin 2)).trans (final_out m ρ c), (h.1 c (0 : Fin 2)).trans (final_x m ρ c)⟩, h.2⟩)
    (run_region m ρ)

/-- The part of it that speaks of the argument and the counters alone. -/
theorem run_frame : θ_run defs (onTc (τ := τ) (main (F := F))) ⟨m, fun _ => 0, ρ⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => (h.1 c).2, h.2⟩) (run_main m ρ)

end Cert.Gather

end
-- ==== Proof.Value.lean ====
/-
The value: when the devices' arguments are blocks of one array, every device's result is that array.
-/
module

public import proofs.«01_k».proof.Proof.Run
public import Idealize.ShloMosaic.Lib.Layout

@[expose] public section

noncomputable section

namespace Cert.Gather

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

/-- The block of the whole array that device `d` holds is the `d / 4`-th half of its rows. -/
theorem held_block (d : Dev nD) : ((Layout.meshBlock [2, 2, 2] ![[0], []] d : (b : Fin 2) → Fin _) (0 : Fin 2)).val = d.val / 4 := by
  revert d; decide

theorem tiles : Layout.TilesN ⟨2, ![1024, 512]⟩ ⟨2, ![2048, 512]⟩ (fun b : Fin 2 => Layout.cutSize [2, 2, 2] ((![[0], []] : Fin 2 → List ℕ) b)) := by decide

/-- An element of the result, taken from the block of the device it comes from, sits in the whole array where it sits in the result. -/
theorem place (c : Dev nD) (p : RowIx) :
    tiles.idx (Layout.meshBlock [2, 2, 2] ![[0], []] (src c (p 0).val)) (inBlock p) = p := by
  have hr : (p 0).val < 2048 := (p 0).isLt
  funext a
  refine Fin.ext ((Layout.TilesN.idx_val tiles _ _ a).trans ?_)
  match a with
  | 0 =>
    show _ * 1024 + (p 0).val % 1024 = (p 0).val
    have h := held_block (src c (p 0).val)
    rw [src_block c (p 0).val hr] at h
    refine (congrArg (· * 1024 + (p 0).val % 1024) h).trans ?_
    show (p 0).val / 1024 * 1024 + (p 0).val % 1024 = (p 0).val
    omega
  | 1 => exact Nat.zero_add _

theorem gathered (v : (main_v1 : Ref sig .tc).ty.Contents (Elt F))
    (h : ∀ c : Dev nD, m ((c.tc : Thread nD τ).loc main_arg0)
      = Layout.blockN ⟨2, ![1024, 512]⟩ ⟨2, ![2048, 512]⟩ (Layout.meshBlock [2, 2, 2] ![[0], []] c) v) (c : Dev nD) :
    outAt m ρ c = v := by
  funext p
  unfold outAt
  rw [xstg_eq, h]
  exact congrArg v (place c p)

end Cert.Gather

end
-- ==== Proof.Reference.lean ====
/-
The run of the reference: it returns its argument, so nothing changes.
-/
module

public import proofs.«01_k».proof.Proof.Gen.ReferenceIdeal
public import Idealize.ShloMosaic.Lib.StableHlo.Run
public import Idealize.ShloMosaic.Lib.Quiescent

@[expose] public section

noncomputable section

namespace Cert.Gather.Ref

open Cert.ReferenceIdeal Cert.ReferenceIdeal.Gen
open Idealize.ShloMosaic Idealize.ShloMosaic.StableHlo Idealize.SL.Sem

variable {F : FTy → Type} [FloatOps F]

/-- It has no operation. -/
theorem main_eq (c : Dev nD) : main (F := F) c = seq [] := rfl

/-- Every execution ends with the array as it was; there is no semaphore. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => h c main_arg0, sem_eq_zero_of_no_sems rfl r.2⟩)
    (run_seq (by decide) (by decide) defs main (fun _ => []) main_eq (fun _ => trivial) m ρ)

end Cert.Gather.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The two texts of the kernel are the same: its body first, -/
theorem body_table : Cert.Kernel.defs₀ (F := Bits) = Cert.KernelIdeal.defs₀ (F := Bits) := by
  unfold Cert.Kernel.defs₀ Cert.KernelIdeal.defs₀
  congr 1
  funext l a
  match l, a with
  | 0, (t, s) => rfl

/-- then all it runs. -/
theorem run_table : Cert.Kernel.defs (F := Bits) = Cert.KernelIdeal.defs (F := Bits) :=
  congrArg (Pipeline.defs (Cert.Kernel.pcfgs (F := Bits))) body_table

/-- So the run of one is the run of the other. -/
theorem frame_kernel : Cert.quiescent_Kernel := fun m ρ _ => by
  rw [run_table]
  exact Cert.Gather.run_frame (F := Bits) m ρ

theorem frame_ideal : Cert.quiescent_KernelIdeal := fun m ρ _ => Cert.Gather.run_frame (F := Ideal) m ρ

theorem frame_reference : Cert.quiescent_ReferenceIdeal := fun m ρ _ => Cert.Gather.Ref.run_main (F := Ideal) m ρ

/-- Every device's result is the whole array, which the reference returns. -/
theorem value : Cert.algebraic_KernelIdeal_ReferenceIdeal := fun m ρ m' ρ' _ hb =>
  ⟨m' (((0 : Dev Cert.ReferenceIdeal.nD).tc : Thread Cert.ReferenceIdeal.nD Cert.ReferenceIdeal.τ).loc Cert.ReferenceIdeal.main_arg0),
    (θ_run Cert.KernelIdeal.defs _ _).mono
      (fun _ h c => ⟨((h.1 c).1).trans (Cert.Gather.gathered m ρ _ hb c), (h.1 c).2⟩) (Cert.Gather.run_main (F := Ideal) m ρ),
    (θ_run Cert.ReferenceIdeal.defs _ _).mono (fun _ h => ⟨h.1 0, h.1 0⟩) (Cert.Gather.Ref.run_main (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
